-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12))
      ∧ r.2.sem = fun _ => 0)

def preserves_Fox_FoxIdeal : Prop :=
  True

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v83)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v83) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v39) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)) →
    ∃ (v0 : (c : Dev Cert.PostIdeal.nD) → Buf (Elt Ideal) ((c.tc : Thread Cert.PostIdeal.nD Cert.PostIdeal.τ).loc Cert.PostIdeal.main_v25)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v25) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v60) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12))

def Claim : Prop :=
  ∃ (hFox : Cert.Fox.Facts) (hFoxIdeal : Cert.FoxIdeal.Facts) (hFoxRefIdeal : Cert.FoxRefIdeal.Facts) (hPost : Cert.Post.Facts) (hPostIdeal : Cert.PostIdeal.Facts) (hPostRefIdeal : Cert.PostRefIdeal.Facts) (hPre_finite : Cert.Pre_finite.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Post (hPost := hPost)
    ∧ quiescent_PostIdeal (hPostIdeal := hPostIdeal)
    ∧ quiescent_PostRefIdeal (hPostRefIdeal := hPostRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Post_PostIdeal
    ∧ algebraic_PostIdeal_PostRefIdeal (hPostIdeal := hPostIdeal) (hPostRefIdeal := hPostRefIdeal)
-- ==== Pre_finite.lean ====
abbrev S8x2048x512 : Shape := ⟨3, ![8, 2048, 512]⟩
abbrev S8x2048x8 : Shape := ⟨3, ![8, 2048, 8]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x2048x8 : S_.BroadcastsInDim S8x2048x8 (![] : Fin 0 → Fin S8x2048x8.rank)
  reducesTo_S8x2048x8_S_d0_1_2 : S8x2048x8.ReducesTo [0, 1, 2] S_

variable [Facts]

def fn {F : FTy → Type} [FloatOps F] (main_arg0 : FVec F S8x2048x512 .f32) (main_arg1 : FVec F S8x2048x512 .f32) (main_arg2 : FVec F S8x2048x512 .f32) (main_arg3 : FVec F S8x2048x8 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_c_0 : IVec S_ 1 := constantI S_ 1 1#1
  let main_v4 : IVec S_ 1 := andi main_c_0 main_v3
  let main_v5 : FVec F S8x2048x512 .f32 := Host.absf main_arg1
  let main_cst_1 : FVec F S_ .f32 := constant S_ .f32 0x7F800000#32
  let main_v6 : FVec F S8x2048x512 .f32 := broadcastInDim S8x2048x512 ![] bcast_S_S8x2048x512 main_cst_1
  let main_v7 : IVec S8x2048x512 1 := cmpf .olt main_v5 main_v6
  let main_c_2 : IVec S_ 1 := constantI S_ 1 1#1
  let main_v8 : IVec S_ 1 := (fun x v => Host.reduce IntOp.andi x v reducesTo_S8x2048x512_S_d0_1_2 h_S_) main_v7 main_c_2
  let main_v9 : IVec S_ 1 := andi main_v4 main_v8
  let main_v10 : FVec F S8x2048x8 .f32 := Host.absf main_arg3
  let main_cst_3 : FVec F S_ .f32 := constant S_ .f32 0x7F800000#32
  let main_v11 : FVec F S8x2048x8 .f32 := broadcastInDim S8x2048x8 ![] bcast_S_S8x2048x8 main_cst_3
  let main_v12 : IVec S8x2048x8 1 := cmpf .olt main_v10 main_v11
  let main_c_4 : IVec S_ 1 := constantI S_ 1 1#1
  let main_v13 : IVec S_ 1 := (fun x v => Host.reduce IntOp.andi x v reducesTo_S8x2048x8_S_d0_1_2 h_S_) main_v12 main_c_4
  let main_v14 : IVec S_ 1 := andi main_v9 main_v13
  main_v14
-- ==== Fox.lean ====
abbrev S8x2048x512 : Shape := ⟨3, ![8, 2048, 512]⟩
abbrev S8x2048x8 : Shape := ⟨3, ![8, 2048, 8]⟩
abbrev S_ : Shape := ⟨0, ![]⟩
abbrev S16384x512 : Shape := ⟨2, ![16384, 512]⟩
abbrev S16384x1024 : Shape := ⟨2, ![16384, 1024]⟩
abbrev S64x256x512 : Shape := ⟨3, ![64, 256, 512]⟩
abbrev S64x512x256 : Shape := ⟨3, ![64, 512, 256]⟩
abbrev S8x8x2048 : Shape := ⟨3, ![8, 8, 2048]⟩
abbrev S16384x8 : Shape := ⟨2, ![16384, 8]⟩
abbrev S16384x96 : Shape := ⟨2, ![16384, 96]⟩
abbrev S16384x128 : Shape := ⟨2, ![16384, 128]⟩
abbrev S4x128x256 : Shape := ⟨3, ![4, 128, 256]⟩
abbrev S512x512 : Shape := ⟨2, ![512, 512]⟩
abbrev S2048x512 : Shape := ⟨2, ![2048, 512]⟩
abbrev S8x512x256 : Shape := ⟨3, ![8, 512, 256]⟩
abbrev S512x128 : Shape := ⟨2, ![512, 128]⟩
abbrev S2048x128 : Shape := ⟨2, ![2048, 128]⟩
abbrev S8x2048x128 : Shape := ⟨3, ![8, 2048, 128]⟩
abbrev S8x512x128 : Shape := ⟨3, ![8, 512, 128]⟩
abbrev S8x1x512 : Shape := ⟨3, ![8, 1, 512]⟩
abbrev S8x80x512 : Shape := ⟨3, ![8, 80, 512]⟩
abbrev S1x128x256 : Shape := ⟨3, ![1, 128, 256]⟩
abbrev S128x256 : Shape := ⟨2, ![128, 256]⟩
abbrev S2048x256 : Shape := ⟨2, ![2048, 256]⟩
abbrev S1x2048x128 : Shape := ⟨3, ![1, 2048, 128]⟩
abbrev S512x256 : Shape := ⟨2, ![512, 256]⟩
abbrev S1x512x128 : Shape := ⟨3, ![1, 512, 128]⟩
abbrev S16x256 : Shape := ⟨2, ![16, 256]⟩
abbrev S1x256x128 : Shape := ⟨3, ![1, 256, 128]⟩
abbrev S256x128 : Shape := ⟨2, ![256, 128]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S1x80x512 : Shape := ⟨3, ![1, 80, 512]⟩
abbrev S80x512 : Shape := ⟨2, ![80, 512]⟩
abbrev S1x64x256 : Shape := ⟨3, ![1, 64, 256]⟩
abbrev S64x256 : Shape := ⟨2, ![64, 256]⟩
abbrev S80x256 : Shape := ⟨2, ![80, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩
abbrev S64x512 : Shape := ⟨2, ![64, 512]⟩
abbrev S128x512 : Shape := ⟨2, ![128, 512]⟩

abbrev nBuf : Space → Nat
  | .hbm => 129
  | .vmem => 18
  | .smem => 0
  | _ => 0

abbrev hbmTy0_0 (i : Nat) : BufTy := match i % 128 with
  | 0 => ⟨S8x2048x512, .f32⟩
  | 1 => ⟨S8x2048x512, .f32⟩
  | 2 => ⟨S8x2048x512, .f32⟩
  | 3 => ⟨S8x2048x8, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S16384x512, .f32⟩
  | 11 => ⟨S16384x512, .f32⟩
  | 12 => ⟨S16384x512, .f32⟩
  | 13 => ⟨S16384x512, .f32⟩
  | 14 => ⟨S16384x1024, .f32⟩
  | 15 => ⟨S16384x1024, .bf16⟩
  | 16 => ⟨S64x256x512, .f32⟩
  | 17 => ⟨S64x512x256, .f32⟩
  | 18 => ⟨S64x512x256, .bf16⟩
  | 19 => ⟨S8x8x2048, .f32⟩
  | 20 => ⟨S_, .f32⟩
  | 21 => ⟨S_, .f32⟩
  | 22 => ⟨S8x8x2048, .f32⟩
  | 23 => ⟨S8x2048x8, .f32⟩
  | 24 => ⟨S16384x8, .f32⟩
  | 25 => ⟨S16384x8, .f32⟩
  | 26 => ⟨S16384x8, .f32⟩
  | 27 => ⟨S16384x8, .bf16⟩
  | 28 => ⟨S16384x8, .f32⟩
  | 29 => ⟨S16384x8, .f32⟩
  | 30 => ⟨S16384x8, .bf16⟩
  | 31 => ⟨S16384x8, .f32⟩
  | 32 => ⟨S16384x8, .f32⟩
  | 33 => ⟨S16384x8, .bf16⟩
  | 34 => ⟨S16384x8, .f32⟩
  | 35 => ⟨S16384x8, .i32⟩
  | 36 => ⟨S_, .i32⟩
  | 37 => ⟨S16384x8, .i32⟩
  | 38 => ⟨S16384x8, .i1⟩
  | 39 => ⟨S_, .f32⟩
  | 40 => ⟨S_, .f32⟩
  | 41 => ⟨S16384x8, .f32⟩
  | 42 => ⟨S16384x8, .f32⟩
  | 43 => ⟨S16384x8, .f32⟩
  | 44 => ⟨S_, .f32⟩
  | 45 => ⟨S16384x96, .f32⟩
  | 46 => ⟨S16384x8, .f32⟩
  | 47 => ⟨S16384x128, .f32⟩
  | 48 => ⟨S16384x128, .bf16⟩
  | 49 => ⟨S4x128x256, .i32⟩
  | 50 => ⟨S4x128x256, .i32⟩
  | 51 => ⟨S4x128x256, .i32⟩
  | 52 => ⟨S_, .i32⟩
  | 53 => ⟨S4x128x256, .i32⟩
  | 54 => ⟨S4x128x256, .i32⟩
  | 55 => ⟨S_, .i32⟩
  | 56 => ⟨S4x128x256, .i32⟩
  | 57 => ⟨S4x128x256, .i1⟩
  | 58 => ⟨S_, .i32⟩
  | 59 => ⟨S_, .i32⟩
  | 60 => ⟨S4x128x256, .i32⟩
  | 61 => ⟨S4x128x256, .i32⟩
  | 62 => ⟨S4x128x256, .i32⟩
  | 63 => ⟨S4x128x256, .i32⟩
  | 64 => ⟨S4x128x256, .i32⟩
  | 65 => ⟨S_, .i32⟩
  | 66 => ⟨S4x128x256, .i32⟩
  | 67 => ⟨S4x128x256, .i1⟩
  | 68 => ⟨S_, .i32⟩
  | 69 => ⟨S_, .i32⟩
  | 70 => ⟨S4x128x256, .i32⟩
  | 71 => ⟨S4x128x256, .i32⟩
  | 72 => ⟨S4x128x256, .i32⟩
  | 73 => ⟨S4x128x256, .i32⟩
  | 74 => ⟨S4x128x256, .i32⟩
  | 75 => ⟨S_, .i32⟩
  | 76 => ⟨S4x128x256, .i32⟩
  | 77 => ⟨S4x128x256, .i1⟩
  | 78 => ⟨S_, .i32⟩
  | 79 => ⟨S4x128x256, .i32⟩
  | 80 => ⟨S4x128x256, .i1⟩
  | 81 => ⟨S_, .i32⟩
  | 82 => ⟨S4x128x256, .i32⟩
  | 83 => ⟨S4x128x256, .i1⟩
  | 84 => ⟨S4x128x256, .i1⟩
  | 85 => ⟨S_, .i32⟩
  | 86 => ⟨S4x128x256, .i32⟩
  | 87 => ⟨S4x128x256, .i1⟩
  | 88 => ⟨S_, .i32⟩
  | 89 => ⟨S4x128x256, .i32⟩
  | 90 => ⟨S4x128x256, .i1⟩
  | 91 => ⟨S4x128x256, .i1⟩
  | 92 => ⟨S_, .i32⟩
  | 93 => ⟨S4x128x256, .i32⟩
  | 94 => ⟨S4x128x256, .i32⟩
  | 95 => ⟨S_, .i32⟩
  | 96 => ⟨S4x128x256, .i32⟩
  | 97 => ⟨S4x128x256, .i32⟩
  | 98 => ⟨S4x128x256, .i32⟩
  | 99 => ⟨S4x128x256, .i1⟩
  | 100 => ⟨S4x128x256, .i1⟩
  | 101 => ⟨S4x128x256, .i1⟩
  | 102 => ⟨S4x128x256, .i1⟩
  | 103 => ⟨S_, .f32⟩
  | 104 => ⟨S_, .f32⟩
  | 105 => ⟨S4x128x256, .f32⟩
  | 106 => ⟨S4x128x256, .f32⟩
  | 107 => ⟨S4x128x256, .f32⟩
  | 108 => ⟨S4x128x256, .i1⟩
  | 109 => ⟨S_, .i32⟩
  | 110 => ⟨S4x128x256, .i32⟩
  | 111 => ⟨S4x128x256, .i32⟩
  | 112 => ⟨S_, .i32⟩
  | 113 => ⟨S4x128x256, .i32⟩
  | 114 => ⟨S4x128x256, .i32⟩
  | 115 => ⟨S4x128x256, .i32⟩
  | 116 => ⟨S4x128x256, .i1⟩
  | 117 => ⟨S4x128x256, .i1⟩
  | 118 => ⟨S_, .f32⟩
  | 119 => ⟨S_, .f32⟩
  | 120 => ⟨S4x128x256, .f32⟩
  | 121 => ⟨S4x128x256, .f32⟩
  | 122 => ⟨S4x128x256, .f32⟩
  | 123 => ⟨S_, .f32⟩
  | 124 => ⟨S4x128x256, .f32⟩
  | 125 => ⟨S4x128x256, .f32⟩
  | 126 => ⟨S4x128x256, .bf16⟩
  | 127 => ⟨S4x128x256, .bf16⟩
  | _ => ⟨S8x2048x512, .f32⟩

abbrev hbmTy0_1 (i : Nat) : BufTy := match i % 128 with
  | 0 => ⟨S16384x512, .bf16⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S8x512x256, .bf16⟩
  | .local _ .vmem, ⟨5, _⟩ => ⟨S8x512x256, .bf16⟩
  | .local _ .vmem, ⟨6, _⟩ => ⟨S512x128, .bf16⟩
  | .local _ .vmem, ⟨7, _⟩ => ⟨S512x128, .bf16⟩
  | .local _ .vmem, ⟨8, _⟩ => ⟨S2048x128, .bf16⟩
  | .local _ .vmem, ⟨9, _⟩ => ⟨S2048x128, .bf16⟩
  | .local _ .vmem, ⟨10, _⟩ => ⟨S4x128x256, .bf16⟩
  | .local _ .vmem, ⟨11, _⟩ => ⟨S4x128x256, .bf16⟩
  | .local _ .vmem, ⟨12, _⟩ => ⟨S512x512, .bf16⟩
  | .local _ .vmem, ⟨13, _⟩ => ⟨S512x512, .bf16⟩
  | .local _ .vmem, ⟨14, _⟩ => ⟨S8x2048x128, .bf16⟩
  | .local _ .vmem, ⟨15, _⟩ => ⟨S8x512x128, .bf16⟩
  | .local _ .vmem, ⟨16, _⟩ => ⟨S8x1x512, .f32⟩
  | .local _ .vmem, ⟨17, _⟩ => ⟨S8x80x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_call0_cst : Ref sig .tc := ⟨.hbm, 20, rfl⟩
abbrev main_call0_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_c_8 : Ref sig .tc := ⟨.hbm, 59, rfl⟩
abbrev main_call2_v0 : Ref sig .tc := ⟨.hbm, 60, rfl⟩
abbrev main_call2_v1 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_c_11 : Ref sig .tc := ⟨.hbm, 69, rfl⟩
abbrev main_call3_v0 : Ref sig .tc := ⟨.hbm, 70, rfl⟩
abbrev main_call3_v1 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_c_13 : Ref sig .tc := ⟨.hbm, 78, rfl⟩
abbrev main_v51 : Ref sig .tc := ⟨.hbm, 79, rfl⟩
abbrev main_v52 : Ref sig .tc := ⟨.hbm, 80, rfl⟩
abbrev main_c_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_15 : Ref sig .tc := ⟨.hbm, 85, rfl⟩
abbrev main_v56 : Ref sig .tc := ⟨.hbm, 86, rfl⟩
abbrev main_v57 : Ref sig .tc := ⟨.hbm, 87, rfl⟩
abbrev main_c_16 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_17 : Ref sig .tc := ⟨.hbm, 92, rfl⟩
abbrev main_v61 : Ref sig .tc := ⟨.hbm, 93, rfl⟩
abbrev main_v62 : Ref sig .tc := ⟨.hbm, 94, rfl⟩
abbrev main_c_18 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_19 : Ref sig .tc := ⟨.hbm, 103, rfl⟩
abbrev main_cst_20 : Ref sig .tc := ⟨.hbm, 104, rfl⟩
abbrev main_call4_v0 : Ref sig .tc := ⟨.hbm, 105, rfl⟩
abbrev main_call4_v1 : Ref sig .tc := ⟨.hbm, 106, rfl⟩
abbrev main_v70 : Ref sig .tc := ⟨.hbm, 107, rfl⟩
abbrev main_v71 : Ref sig .tc := ⟨.hbm, 108, rfl⟩
abbrev main_c_21 : Ref sig .tc := ⟨.hbm, 109, rfl⟩
abbrev main_v72 : Ref sig .tc := ⟨.hbm, 110, rfl⟩
abbrev main_v73 : Ref sig .tc := ⟨.hbm, 111, rfl⟩
abbrev main_c_22 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_23 : Ref sig .tc := ⟨.hbm, 118, rfl⟩
abbrev main_cst_24 : Ref sig .tc := ⟨.hbm, 119, rfl⟩
abbrev main_call5_v0 : Ref sig .tc := ⟨.hbm, 120, rfl⟩
abbrev main_call5_v1 : Ref sig .tc := ⟨.hbm, 121, rfl⟩
abbrev main_v79 : Ref sig .tc := ⟨.hbm, 122, rfl⟩
abbrev main_cst_25 : Ref sig .tc := ⟨.hbm, 123, rfl⟩
abbrev main_call6_v0 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_59 : BitVec 32 := 1#32
  ⟨c0_i32_58, v112, c1_i32_59⟩
def k0_mult1 (i : grid0.Coords) (k0_t1 : Fin (k0_t1_loop i).trips) : BitVec 32 :=
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let c0_i32_470 : BitVec 32 := 0#32
  let v768 : BitVec 32 := Scalar.addi v767 c0_i32_470
  let c256_i32_471 : BitVec 32 := 256#32
  let v769 : BitVec 32 := Scalar.muli v768 c256_i32_471
  v769
def k0_off1 (i : grid0.Coords) (k0_t1 : Fin (k0_t1_loop i).trips) (c0_i32_470 : BitVec 32) : Fin 3 → Nat :=
  let c0_472 : Index := 0#32
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v771 : Index := Scalar.indexCast v770
  let c0_473 : Index := 0#32
  ![0, v771.toNat, 0]
def k0_off2 (i : grid0.Coords) (k0_t1 : Fin (k0_t1_loop i).trips) (c0_i32_470 : BitVec 32) : Fin 3 → Nat :=
  let c1_478 : Index := 1#32
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v777 : Index := Scalar.indexCast v770
  let c0_479 : Index := 0#32
  ![1, v777.toNat, 0]
def k0_off3 (i : grid0.Coords) (k0_t1 : Fin (k0_t1_loop i).trips) (c0_i32_470 : BitVec 32) : Fin 3 → Nat :=
  let c2_484 : Index := 2#32
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v783 : Index := Scalar.indexCast v770
  let c0_485 : Index := 0#32
  ![2, v783.toNat, 0]
def k0_off4 (i : grid0.Coords) (k0_t1 : Fin (k0_t1_loop i).trips) (c0_i32_470 : BitVec 32) : Fin 3 → Nat :=
  let c3_490 : Index := 3#32
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v789 : Index := Scalar.indexCast v770
  let c0_491 : Index := 0#32
  ![3, v789.toNat, 0]
def k0_off5 (i : grid0.Coords) (k0_t1 : Fin (k0_t1_loop i).trips) (c0_i32_470 : BitVec 32) : Fin 3 → Nat :=
  let c4_496 : Index := 4#32
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v795 : Index := Scalar.indexCast v770
  let c0_497 : Index := 0#32
  ![4, v795.toNat, 0]
def k0_off6 (i : grid0.Coords) (k0_t1 : Fin (k0_t1_loop i).trips) (c0_i32_470 : BitVec 32) : Fin 3 → Nat :=
  let c5_502 : Index := 5#32
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v801 : Index := Scalar.indexCast v770
  let c0_503 : Index := 0#32
  ![5, v801.toNat, 0]
def k0_off7 (i : grid0.Coords) (k0_t1 : Fin (k0_t1_loop i).trips) (c0_i32_470 : BitVec 32) : Fin 3 → Nat :=
  let c6_508 : Index := 6#32
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v807 : Index := Scalar.indexCast v770
  let c0_509 : Index := 0#32
  ![6, v807.toNat, 0]
def k0_off8 (i : grid0.Coords) (k0_t1 : Fin (k0_t1_loop i).trips) (c0_i32_470 : BitVec 32) : Fin 3 → Nat :=
  let c7_514 : Index := 7#32
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v813 : Index := Scalar.indexCast v770
  let c0_515 : Index := 0#32
  ![7, v813.toNat, 0]
def k0_off9 (i : grid0.Coords) (k0_t1 : Fin (k0_t1_loop i).trips) (c0_i32_470 : BitVec 32) : Fin 3 → Nat :=
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let v837 : Index := Scalar.indexCast v768
  let c0_530 : Index := 0#32
  let c0_531 : Index := 0#32
  ![v837.toNat, 0, 0]
def k0_off10 (i : grid0.Coords) (k0_t1 : Fin (k0_t1_loop i).trips) (c0_i32_470 : BitVec 32) : Fin 3 → Nat :=
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let v864 : Index := Scalar.indexCast v768
  let c64_546 : Index := 64#32
  let c0_547 : Index := 0#32
  ![v864.toNat, 64, 0]
def k0_off11 (i : grid0.Coords) (k0_t1 : Fin (k0_t1_loop i).trips) (c0_i32_470 : BitVec 32) : Fin 3 → Nat :=
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let v891 : Index := Scalar.indexCast v768
  let c128_562 : Index := 128#32
  let c0_563 : Index := 0#32
  ![v891.toNat, 128, 0]
def k0_off12 (i : grid0.Coords) (k0_t1 : Fin (k0_t1_loop i).trips) (c0_i32_470 : BitVec 32) : Fin 3 → Nat :=
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let v918 : Index := Scalar.indexCast v768
  let c192_578 : Index := 192#32
  let c0_579 : Index := 0#32
  ![v918.toNat, 192, 0]
def k0_off13 (i : grid0.Coords) (k0_t1 : Fin (k0_t1_loop i).trips) (c0_i32_470 : BitVec 32) : Fin 3 → Nat :=
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let v945 : Index := Scalar.indexCast v768
  let c256_594 : Index := 256#32
  let c0_595 : Index := 0#32
  ![v945.toNat, 256, 0]
def k0_off14 (i : grid0.Coords) (k0_t1 : Fin (k0_t1_loop i).trips) (c0_i32_470 : BitVec 32) : Fin 3 → Nat :=
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let v972 : Index := Scalar.indexCast v768
  let c320_610 : Index := 320#32
  let c0_611 : Index := 0#32
  ![v972.toNat, 320, 0]
def k0_off15 (i : grid0.Coords) (k0_t1 : Fin (k0_t1_loop i).trips) (c0_i32_470 : BitVec 32) : Fin 3 → Nat :=
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let v999 : Index := Scalar.indexCast v768
  let c384_626 : Index := 384#32
  let c0_627 : Index := 0#32
  ![v999.toNat, 384, 0]
def k0_off16 (i : grid0.Coords) (k0_t1 : Fin (k0_t1_loop i).trips) (c0_i32_470 : BitVec 32) : Fin 3 → Nat :=
  let c0_i32_58 : BitVec 32 := 0#32
  let c1_i32_59 : BitVec 32 := 1#32
  let arg14 : BitVec 32 := Scf.iv c0_i32_58 c1_i32_59 k0_t1
  let c2_i32_469 : BitVec 32 := 2#32
  let v767 : BitVec 32 := Scalar.muli arg14 c2_i32_469
  let v768 : BitVec 32 := Scalar.addi v767 c0_i32_470
  let v1026 : Index := Scalar.indexCast v768
  let c448_642 : Index := 448#32
  let c0_643 : Index := 0#32
  ![v1026.toNat, 448, 0]
def k0_mult2 (i : grid0.Coords) (k0_t1 : Fin (k0_t1_loop i).trips) : BitVec 32 :=
  let c0_i32_58 : BitVec 32 := 0#32
  let c1_i32_59 : BitVec 32 := 1#32
  let arg14 : BitVec 32 := Scf.iv c0_i32_58 c1_i32_59 k0_t1
  let c2_i32_648 : BitVec 32 := 2#32
  let v1035 : BitVec 32 := Scalar.muli arg14 c2_i32_648
  let c1_i32_649 : BitVec 32 := 1#32
  let v1036 : BitVec 32 := Scalar.addi v1035 c1_i32_649
  let c256_i32_650 : BitVec 32 := 256#32
  let v1037 : BitVec 32 := Scalar.muli v1036 c256_i32_650
  v1037
@[reducible] def k0_t2_loop (i : grid0.Coords) : Scf.Loop 32 :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let v109 : BitVec 32 := Scalar.addi c0_i32_58 v108
  let c1_i32_60 : BitVec 32 := 1#32
  ⟨v112, v109, c1_i32_60⟩
def k0_mult3 (i : grid0.Coords) (k0_t2 : Fin (k0_t2_loop i).trips) : BitVec 32 :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let c0_i32_470 : BitVec 32 := 0#32
  let v768 : BitVec 32 := Scalar.addi v767 c0_i32_470
  let c256_i32_471 : BitVec 32 := 256#32
  let v769 : BitVec 32 := Scalar.muli v768 c256_i32_471
  v769
def k0_off17 (i : grid0.Coords) (k0_t2 : Fin (k0_t2_loop i).trips) (c0_i32_470 : BitVec 32) : Fin 3 → Nat :=
  let c0_472 : Index := 0#32
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v771 : Index := Scalar.indexCast v770
  let c0_473 : Index := 0#32
  ![0, v771.toNat, 0]
def k0_off18 (i : grid0.Coords) (k0_t2 : Fin (k0_t2_loop i).trips) (c0_i32_470 : BitVec 32) : Fin 3 → Nat :=
  let c1_478 : Index := 1#32
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v777 : Index := Scalar.indexCast v770
  let c0_479 : Index := 0#32
  ![1, v777.toNat, 0]
def k0_off19 (i : grid0.Coords) (k0_t2 : Fin (k0_t2_loop i).trips) (c0_i32_470 : BitVec 32) : Fin 3 → Nat :=
  let c2_484 : Index := 2#32
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v783 : Index := Scalar.indexCast v770
  let c0_485 : Index := 0#32
  ![2, v783.toNat, 0]
def k0_off20 (i : grid0.Coords) (k0_t2 : Fin (k0_t2_loop i).trips) (c0_i32_470 : BitVec 32) : Fin 3 → Nat :=
  let c3_490 : Index := 3#32
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v789 : Index := Scalar.indexCast v770
  let c0_491 : Index := 0#32
  ![3, v789.toNat, 0]
def k0_off21 (i : grid0.Coords) (k0_t2 : Fin (k0_t2_loop i).trips) (c0_i32_470 : BitVec 32) : Fin 3 → Nat :=
  let c4_496 : Index := 4#32
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v795 : Index := Scalar.indexCast v770
  let c0_497 : Index := 0#32
  ![4, v795.toNat, 0]
def k0_off22 (i : grid0.Coords) (k0_t2 : Fin (k0_t2_loop i).trips) (c0_i32_470 : BitVec 32) : Fin 3 → Nat :=
  let c5_502 : Index := 5#32
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v801 : Index := Scalar.indexCast v770
  let c0_503 : Index := 0#32
  ![5, v801.toNat, 0]
def k0_off23 (i : grid0.Coords) (k0_t2 : Fin (k0_t2_loop i).trips) (c0_i32_470 : BitVec 32) : Fin 3 → Nat :=
  let c6_508 : Index := 6#32
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v807 : Index := Scalar.indexCast v770
  let c0_509 : Index := 0#32
  ![6, v807.toNat, 0]
def k0_off24 (i : grid0.Coords) (k0_t2 : Fin (k0_t2_loop i).trips) (c0_i32_470 : BitVec 32) : Fin 3 → Nat :=
  let c7_514 : Index := 7#32
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let c256_i32_471 : BitVec 32 := 256#32
  let v769 : BitVec 32 := Scalar.muli v768 c256_i32_471
  let v770 : BitVec 32 := v769
  let v813 : Index := Scalar.indexCast v770
  let c0_515 : Index := 0#32
  ![7, v813.toNat, 0]
def k0_off25 (i : grid0.Coords) (k0_t2 : Fin (k0_t2_loop i).trips) (c0_i32_470 : BitVec 32) : Fin 3 → Nat :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let v837 : Index := Scalar.indexCast v768
  let c0_530 : Index := 0#32
  let c0_531 : Index := 0#32
  ![v837.toNat, 0, 0]
def k0_off26 (i : grid0.Coords) (k0_t2 : Fin (k0_t2_loop i).trips) (c0_i32_470 : BitVec 32) : Fin 3 → Nat :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let v864 : Index := Scalar.indexCast v768
  let c64_546 : Index := 64#32
  let c0_547 : Index := 0#32
  ![v864.toNat, 64, 0]
def k0_off27 (i : grid0.Coords) (k0_t2 : Fin (k0_t2_loop i).trips) (c0_i32_470 : BitVec 32) : Fin 3 → Nat :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let v891 : Index := Scalar.indexCast v768
  let c128_562 : Index := 128#32
  let c0_563 : Index := 0#32
  ![v891.toNat, 128, 0]
def k0_off28 (i : grid0.Coords) (k0_t2 : Fin (k0_t2_loop i).trips) (c0_i32_470 : BitVec 32) : Fin 3 → Nat :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let v918 : Index := Scalar.indexCast v768
  let c192_578 : Index := 192#32
  let c0_579 : Index := 0#32
  ![v918.toNat, 192, 0]
def k0_off29 (i : grid0.Coords) (k0_t2 : Fin (k0_t2_loop i).trips) (c0_i32_470 : BitVec 32) : Fin 3 → Nat :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let v945 : Index := Scalar.indexCast v768
  let c256_594 : Index := 256#32
  let c0_595 : Index := 0#32
  ![v945.toNat, 256, 0]
def k0_off30 (i : grid0.Coords) (k0_t2 : Fin (k0_t2_loop i).trips) (c0_i32_470 : BitVec 32) : Fin 3 → Nat :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let v972 : Index := Scalar.indexCast v768
  let c320_610 : Index := 320#32
  let c0_611 : Index := 0#32
  ![v972.toNat, 320, 0]
def k0_off31 (i : grid0.Coords) (k0_t2 : Fin (k0_t2_loop i).trips) (c0_i32_470 : BitVec 32) : Fin 3 → Nat :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let v999 : Index := Scalar.indexCast v768
  let c384_626 : Index := 384#32
  let c0_627 : Index := 0#32
  ![v999.toNat, 384, 0]
def k0_off32 (i : grid0.Coords) (k0_t2 : Fin (k0_t2_loop i).trips) (c0_i32_470 : BitVec 32) : Fin 3 → Nat :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_469 : BitVec 32 := 2#32
  let v767 : BitVec 32 := Scalar.muli arg14 c2_i32_469
  let v768 : BitVec 32 := Scalar.addi v767 c0_i32_470
  let v1026 : Index := Scalar.indexCast v768
  let c448_642 : Index := 448#32
  let c0_643 : Index := 0#32
  ![v1026.toNat, 448, 0]
def k0_mult4 (i : grid0.Coords) (k0_t2 : Fin (k0_t2_loop i).trips) : BitVec 32 :=
  let c0_i32_58 : BitVec 32 := 0#32
  let arg1 : BitVec 32 := BitVec.ofNat 32 (i 1).val
  let v108 : BitVec 32 := Scalar.subi arg1 c0_i32_58
  let c1_i32 : BitVec 32 := 1#32
  let v110 : BitVec 32 := Scalar.divsi v108 c1_i32
  let v111 : BitVec 32 := Scalar.muli v110 c1_i32
  let v112 : BitVec 32 := Scalar.addi c0_i32_58 v111
  let c1_i32_60 : BitVec 32 := 1#32
  let arg14 : BitVec 32 := Scf.iv v112 c1_i32_60 k0_t2
  let c2_i32_648 : BitVec 32 := 2#32
  let v1035 : BitVec 32 := Scalar.muli arg14 c2_i32_648
  let c1_i32_649 : BitVec 32 := 1#32
  let v1036 : BitVec 32 := Scalar.addi v1035 c1_i32_649
  let c256_i32_650 : BitVec 32 := 256#32
  let v1037 : BitVec 32 := Scalar.muli v1036 c256_i32_650
  v1037
def k0_mult5 (i : grid0.Coords) : BitVec 32 :=
  let arg1 : BitVec 32 := BitVec.ofNat 32 (i 1).val
  let c2_i32 : BitVec 32 := 2#32
  let v113 : BitVec 32 := Scalar.muli arg1 c2_i32
  let c0_i32_61 : BitVec 32 := 0#32
  let v114 : BitVec 32 := Scalar.addi v113 c0_i32_61
  let c256_i32 : BitVec 32 := 256#32
  let v115 : BitVec 32 := Scalar.muli v114 c256_i32
  v115
def k0_off33 (i : grid0.Coords) (c0_i32_61 : BitVec 32) : Fin 3 → Nat :=
  let c0_62 : Index := 0#32
  let arg1 : BitVec 32 := BitVec.ofNat 32 (i 1).val
  let c2_i32 : BitVec 32 := 2#32
  let v113 : BitVec 32 := Scalar.muli arg1 c2_i32
  let v114 : BitVec 32 := Scalar.addi v113 c0_i32_61
  let c256_i32 : BitVec 32 := 256#32
  let v115 : BitVec 32 := Scalar.muli v114 c256_i32
  let v116 : BitVec 32 := v115
  let v117 : Index := Scalar.indexCast v116
  let c0_63 : Index := 0#32
  ![0, v117.toNat, 0]
def k0_off34 (i : grid0.Coords) (c0_i32_61 : BitVec 32) : Fin 3 → Nat :=
  let c1_68 : Index := 1#32
  let arg1 : BitVec 32 := BitVec.ofNat 32 (i 1).val
  let c2_i32 : BitVec 32 := 2#32
  let v113 : BitVec 32 := Scalar.muli arg1 c2_i32
  let v114 : BitVec 32 := Scalar.addi v113 c0_i32_61
  let c256_i32 : BitVec 32 := 256#32
  let v115 : BitVec 32 := Scalar.muli v114 c256_i32
  let v116 : BitVec 32 := v115
  let v123 : Index := Scalar.indexCast v116
  let c0_69 : Index := 0#32
  ![1, v123.toNat, 0]
def k0_off35 (i : grid0.Coords) (c0_i32_61 : BitVec 32) : Fin 3 → Nat :=
  let c2_74 : Index := 2#32
  let arg1 : BitVec 32 := BitVec.ofNat 32 (i 1).val
  let c2_i32 : BitVec 32 := 2#32
  let v113 : BitVec 32 := Scalar.muli arg1 c2_i32
  let v114 : BitVec 32 := Scalar.addi v113 c0_i32_61
  let c256_i32 : BitVec 32 := 256#32
  let v115 : BitVec 32 := Scalar.muli v114 c256_i32
  let v116 : BitVec 32 := v115
  let v129 : Index := Scalar.indexCast v116
  let c0_75 : Index := 0#32
  ![2, v129.toNat, 0]
def k0_off36 (i : grid0.Coords) (c0_i32_61 : BitVec 32) : Fin 3 → Nat :=
  let c3_80 : Index := 3#32
  let arg1 : BitVec 32 := BitVec.ofNat 32 (i 1).val
  let c2_i32 : BitVec 32 := 2#32
  let v113 : BitVec 32 := Scalar.muli arg1 c2_i32
  let v114 : BitVec 32 := Scalar.addi v113 c0_i32_61
  let c256_i32 : BitVec 32 := 256#32
  let v115 : BitVec 32 := Scalar.muli v114 c256_i32
  let v116 : BitVec 32 := v115
  let v135 : Index := Scalar.indexCast v116
  let c0_81 : Index := 0#32
  ![3, v135.toNat, 0]
def k0_off37 (i : grid0.Coords) (c0_i32_61 : BitVec 32) : Fin 3 → Nat :=
  let c4_86 : Index := 4#32
  let arg1 : BitVec 32 := BitVec.ofNat 32 (i 1).val
  let c2_i32 : BitVec 32 := 2#32
  let v113 : BitVec 32 := Scalar.muli arg1 c2_i32
  let v114 : BitVec 32 := Scalar.addi v113 c0_i32_61
  let c256_i32 : BitVec 32 := 256#32
  let v115 : BitVec 32 := Scalar.muli v114 c256_i32
  let v116 : BitVec 32 := v115
  let v141 : Index := Scalar.indexCast v116
  let c0_87 : Index := 0#32
  ![4, v141.toNat, 0]
def k0_off38 (i : grid0.Coords) (c0_i32_61 : BitVec 32) : Fin 3 → Nat :=
  let c5_92 : Index := 5#32
  let arg1 : BitVec 32 := BitVec.ofNat 32 (i 1).val
  let c2_i32 : BitVec 32 := 2#32
  let v113 : BitVec 32 := Scalar.muli arg1 c2_i32
  let v114 : BitVec 32 := Scalar.addi v113 c0_i32_61
  let c256_i32 : BitVec 32 := 256#32
  let v115 : BitVec 32 := Scalar.muli v114 c256_i32
  let v116 : BitVec 32 := v115
  let v147 : Index := Scalar.indexCast v116
  let c0_93 : Index := 0#32
  ![5, v147.toNat, 0]
def k0_off39 (i : grid0.Coords) (c0_i32_61 : BitVec 32) : Fin 3 → Nat :=
  let c6_98 : Index := 6#32
  let arg1 : BitVec 32 := BitVec.ofNat 32 (i 1).val
  let c2_i32 : BitVec 32 := 2#32
  let v113 : BitVec 32 := Scalar.muli arg1 c2_i32
  let v114 : BitVec 32 := Scalar.addi v113 c0_i32_61
  let c256_i32 : BitVec 32 := 256#32
  let v115 : BitVec 32 := Scalar.muli v114 c256_i32
  let v116 : BitVec 32 := v115
  let v153 : Index := Scalar.indexCast v116
  let c0_99 : Index := 0#32
  ![6, v153.toNat, 0]
def k0_off40 (i : grid0.Coords) (c0_i32_61 : BitVec 32) : Fin 3 → Nat :=
  let c7_104 : Index := 7#32
  let arg1 : BitVec 32 := BitVec.ofNat 32 (i 1).val
  let c2_i32 : BitVec 32 := 2#32
  let v113 : BitVec 32 := Scalar.muli arg1 c2_i32
  let v114 : BitVec 32 := Scalar.addi v113 c0_i32_61
  let c256_i32 : BitVec 32 := 256#32
  let v115 : BitVec 32 := Scalar.muli v114 c256_i32
  let v116 : BitVec 32 := v115
  let v159 : Index := Scalar.indexCast v116
  let c0_105 : Index := 0#32
  ![7, v159.toNat, 0]
def k0_off41 (i : grid0.Coords) (c0_i32_61 : BitVec 32) : Fin 3 → Nat :=
  let arg1 : BitVec 32 := BitVec.ofNat 32 (i 1).val
  let c2_i32 : BitVec 32 := 2#32
  let v113 : BitVec 32 := Scalar.muli arg1 c2_i32
  let v114 : BitVec 32 := Scalar.addi v113 c0_i32_61
  let v188 : Index := Scalar.indexCast v114
  let c0_121 : Index := 0#32
  let c0_122 : Index := 0#32
  ![v188.toNat, 0, 0]
def k0_off42 (i : grid0.Coords) (c0_i32_61 : BitVec 32) : Fin 3 → Nat :=
  let arg1 : BitVec 32 := BitVec.ofNat 32 (i 1).val
  let c2_i32 : BitVec 32 := 2#32
  let v113 : BitVec 32 := Scalar.muli arg1 c2_i32
  let v114 : BitVec 32 := Scalar.addi v113 c0_i32_61
  let v217 : Index := Scalar.indexCast v114
  let c64 : Index := 64#32
  let c0_138 : Index := 0#32
  ![v217.toNat, 64, 0]
def k0_off43 (i : grid0.Coords) (c0_i32_61 : BitVec 32) : Fin 3 → Nat :=
  let arg1 : BitVec 32 := BitVec.ofNat 32 (i 1).val
  let c2_i32 : BitVec 32 := 2#32
  let v113 : BitVec 32 := Scalar.muli arg1 c2_i32
  let v114 : BitVec 32 := Scalar.addi v113 c0_i32_61
  let v246 : Index := Scalar.indexCast v114
  let c128_154 : Index := 128#32
  let c0_155 : Index := 0#32
  ![v246.toNat, 128, 0]
def k0_off44 (i : grid0.Coords) (c0_i32_61 : BitVec 32) : Fin 3 → Nat :=
  let arg1 : BitVec 32 := BitVec.ofNat 32 (i 1).val
  let c2_i32 : BitVec 32 := 2#32
  let v113 : BitVec 32 := Scalar.muli arg1 c2_i32
  let v114 : BitVec 32 := Scalar.addi v113 c0_i32_61
  let v275 : Index := Scalar.indexCast v114
  let c192 : Index := 192#32
  let c0_171 : Index := 0#32
  ![v275.toNat, 192, 0]
def k0_off45 (i : grid0.Coords) (c0_i32_61 : BitVec 32) : Fin 3 → Nat :=
  let arg1 : BitVec 32 := BitVec.ofNat 32 (i 1).val
  let c2_i32 : BitVec 32 := 2#32
  let v113 : BitVec 32 := Scalar.muli arg1 c2_i32
  let v114 : BitVec 32 := Scalar.addi v113 c0_i32_61
  let v304 : Index := Scalar.indexCast v114
  let c256_187 : Index := 256#32
  let c0_188 : Index := 0#32
  ![v304.toNat, 256, 0]
def k0_off46 (i : grid0.Coords) (c0_i32_61 : BitVec 32) : Fin 3 → Nat :=
  let arg1 : BitVec 32 := BitVec.ofNat 32 (i 1).val
  let c2_i32 : BitVec 32 := 2#32
  let v113 : BitVec 32 := Scalar.muli arg1 c2_i32
  let v114 : BitVec 32 := Scalar.addi v113 c0_i32_61
  let v333 : Index := Scalar.indexCast v114
  let c320 : Index := 320#32
  let c0_204 : Index := 0#32
  ![v333.toNat, 320, 0]
def k0_off47 (i : grid0.Coords) (c0_i32_61 : BitVec 32) : Fin 3 → Nat :=
  let arg1 : BitVec 32 := BitVec.ofNat 32 (i 1).val
  let c2_i32 : BitVec 32 := 2#32
  let v113 : BitVec 32 := Scalar.muli arg1 c2_i32
  let v114 : BitVec 32 := Scalar.addi v113 c0_i32_61
  let v362 : Index := Scalar.indexCast v114
  let c384_220 : Index := 384#32
  let c0_221 : Index := 0#32
  ![v362.toNat, 384, 0]
def k0_off48 (i : grid0.Coords) (c0_i32_61 : BitVec 32) : Fin 3 → Nat :=
  let arg1 : BitVec 32 := BitVec.ofNat 32 (i 1).val
  let c2_i32 : BitVec 32 := 2#32
  let v113 : BitVec 32 := Scalar.muli arg1 c2_i32
  let v114 : BitVec 32 := Scalar.addi v113 c0_i32_61
  let v391 : Index := Scalar.indexCast v114
  let c448 : Index := 448#32
  let c0_237 : Index := 0#32
  ![v391.toNat, 448, 0]
def k0_mult6 (i : grid0.Coords) : BitVec 32 :=
  let arg1 : BitVec 32 := BitVec.ofNat 32 (i 1).val
  let c2_i32_242 : BitVec 32 := 2#32
  let v400 : BitVec 32 := Scalar.muli arg1 c2_i32_242
  let c1_i32_243 : BitVec 32 := 1#32
  let v401 : BitVec 32 := Scalar.addi v400 c1_i32_243
  let c256_i32_244 : BitVec 32 := 256#32
  let v402 : BitVec 32 := Scalar.muli v401 c256_i32_244
  v402
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FoxRefIdeal.lean ====
abbrev S8x2048x512 : Shape := ⟨3, ![8, 2048, 512]⟩
abbrev S8x2048x8 : Shape := ⟨3, ![8, 2048, 8]⟩
abbrev S8x2048x8x64 : Shape := ⟨4, ![8, 2048, 8, 64]⟩
abbrev S8x8x2048x64 : Shape := ⟨4, ![8, 8, 2048, 64]⟩
abbrev S8x8x2048 : Shape := ⟨3, ![8, 8, 2048]⟩
abbrev S_ : Shape := ⟨0, ![]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16384x512 : Shape := ⟨2, ![16384, 512]⟩

abbrev nBuf : Space → Nat
  | .hbm => 54
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x8, .f32⟩
  | .hbm, ⟨4, _⟩ => ⟨S8x2048x8x64, .f32⟩
  | .hbm, ⟨5, _⟩ => ⟨S8x8x2048x64, .f32⟩
  | .hbm, ⟨6, _⟩ => ⟨S8x2048x8x64, .f32⟩
  | .hbm, ⟨7, _⟩ => ⟨S8x8x2048x64, .f32⟩
  | .hbm, ⟨8, _⟩ => ⟨S8x2048x8x64, .f32⟩
  | .hbm, ⟨9, _⟩ => ⟨S8x8x2048x64, .f32⟩
  | .hbm, ⟨10, _⟩ => ⟨S8x8x2048, .f32⟩
  | .hbm, ⟨11, _⟩ => ⟨S_, .f32⟩
  | .hbm, ⟨12, _⟩ => ⟨S_, .f32⟩
  | .hbm, ⟨13, _⟩ => ⟨S8x8x2048, .f32⟩
  | .hbm, ⟨14, _⟩ => ⟨S8x8x2048x2048, .f32⟩
  | .hbm, ⟨15, _⟩ => ⟨S_, .f32⟩
  | .hbm, ⟨16, _⟩ => ⟨S8x8x2048x2048, .f32⟩
  | .hbm, ⟨17, _⟩ => ⟨S8x8x2048x2048, .f32⟩
  | .hbm, ⟨18, _⟩ => ⟨S8x8x2048x1, .f32⟩
  | .hbm, ⟨19, _⟩ => ⟨S8x8x1x2048, .f32⟩
  | .hbm, ⟨20, _⟩ => ⟨S8x8x2048x2048, .f32⟩
  | .hbm, ⟨21, _⟩ => ⟨S8x8x2048x2048, .f32⟩
  | .hbm, ⟨22, _⟩ => ⟨S8x8x2048x2048, .f32⟩
  | .hbm, ⟨23, _⟩ => ⟨S8x8x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S8x8x2048x2048, .i1⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S8x8x2048, .f32⟩
  | .hbm, ⟨38, _⟩ => ⟨S_, .f32⟩
  | .hbm, ⟨39, _⟩ => ⟨S8x8x2048, .f32⟩
  | .hbm, ⟨40, _⟩ => ⟨S8x8x2048, .f32⟩
  | .hbm, ⟨41, _⟩ => ⟨S8x8x2048x1, .f32⟩
  | .hbm, ⟨42, _⟩ => ⟨S8x8x2048x2048, .f32⟩
  | .hbm, ⟨43, _⟩ => ⟨S8x8x2048x2048, .f32⟩
  | .hbm, ⟨44, _⟩ => ⟨S8x8x2048x2048, .f32⟩
  | .hbm, ⟨45, _⟩ => ⟨S_, .f32⟩
  | .hbm, ⟨46, _⟩ => ⟨S8x8x2048, .f32⟩
  | .hbm, ⟨47, _⟩ => ⟨S8x8x2048x1, .f32⟩
  | .hbm, ⟨48, _⟩ => ⟨S8x8x2048x2048, .f32⟩
  | .hbm, ⟨49, _⟩ => ⟨S8x8x2048x2048, .f32⟩
  | .hbm, ⟨50, _⟩ => ⟨S8x8x2048x64, .f32⟩
  | .hbm, ⟨51, _⟩ => ⟨S8x2048x8x64, .f32⟩
  | .hbm, ⟨52, _⟩ => ⟨S16384x512, .f32⟩
  | .hbm, ⟨53, _⟩ => ⟨S16384x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_cst : Ref sig .tc := ⟨.hbm, 11, rfl⟩
abbrev main_call0_call0_v0 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Post.lean ====
abbrev S8x2048x1024 : Shape := ⟨3, ![8, 2048, 1024]⟩
abbrev S8x2048x512 : Shape := ⟨3, ![8, 2048, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S8x2048x2048 : Shape := ⟨3, ![8, 2048, 2048]⟩
abbrev S_ : Shape := ⟨0, ![]⟩
abbrev S16384x2048 : Shape := ⟨2, ![16384, 2048]⟩
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 41
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x1024, .f32⟩
  | .hbm, ⟨4, _⟩ => ⟨S8x2048x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .bf16⟩
  | .hbm, ⟨23, _⟩ => ⟨S16384x2048, .bf16⟩
  | .hbm, ⟨24, _⟩ => ⟨S16384x1024, .f32⟩
  | .hbm, ⟨25, _⟩ => ⟨S16384x512, .bf16⟩
  | .hbm, ⟨26, _⟩ => ⟨S16384x512, .bf16⟩
  | .hbm, ⟨27, _⟩ => ⟨S512x1024, .f32⟩
  | .hbm, ⟨28, _⟩ => ⟨S512x1024, .bf16⟩
  | .hbm, ⟨29, _⟩ => ⟨S512x1024, .f32⟩
  | .hbm, ⟨30, _⟩ => ⟨S512x1024, .bf16⟩
  | .hbm, ⟨31, _⟩ => ⟨S1024x1024, .f32⟩
  | .hbm, ⟨32, _⟩ => ⟨S1024x1024, .bf16⟩
  | .hbm, ⟨33, _⟩ => ⟨S1024x2816, .f32⟩
  | .hbm, ⟨34, _⟩ => ⟨S1024x2816, .bf16⟩
  | .hbm, ⟨35, _⟩ => ⟨S1024x2816, .f32⟩
  | .hbm, ⟨36, _⟩ => ⟨S1024x2816, .bf16⟩
  | .hbm, ⟨37, _⟩ => ⟨S2816x1024, .f32⟩
  | .hbm, ⟨38, _⟩ => ⟨S2816x1024, .bf16⟩
  | .hbm, ⟨39, _⟩ => ⟨S1x1024, .f32⟩
  | .hbm, ⟨40, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostRefIdeal.lean ====
abbrev S8x2048x1024 : Shape := ⟨3, ![8, 2048, 1024]⟩
abbrev S8x2048x512 : Shape := ⟨3, ![8, 2048, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S512x1024 : Shape := ⟨2, ![512, 1024]⟩
abbrev S1024x1024 : Shape := ⟨2, ![1024, 1024]⟩
abbrev S8x2048 : Shape := ⟨2, ![8, 2048]⟩
abbrev S8x2048x1 : Shape := ⟨3, ![8, 2048, 1]⟩
abbrev S1x1x1024 : Shape := ⟨3, ![1, 1, 1024]⟩
abbrev S1024x2816 : Shape := ⟨2, ![1024, 2816]⟩
abbrev S8x2048x2816 : Shape := ⟨3, ![8, 2048, 2816]⟩
abbrev S2816x1024 : Shape := ⟨2, ![2816, 1024]⟩
abbrev S16384x1024 : Shape := ⟨2, ![16384, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x1024, .f32⟩
  | .hbm, ⟨4, _⟩ => ⟨S8x2048x1024, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024x2816, .f32⟩
  | .hbm, ⟨10, _⟩ => ⟨S1x1024x2816, .f32⟩
  | .hbm, ⟨11, _⟩ => ⟨S1x2816x1024, .f32⟩
  | .hbm, ⟨12, _⟩ => ⟨S1024, .f32⟩
  | .hbm, ⟨13, _⟩ => ⟨S8x2048x512, .f32⟩
  | .hbm, ⟨14, _⟩ => ⟨S8x2048x512, .f32⟩
  | .hbm, ⟨15, _⟩ => ⟨S8x2048x1024, .f32⟩
  | .hbm, ⟨16, _⟩ => ⟨S8x2048x1024, .f32⟩
  | .hbm, ⟨17, _⟩ => ⟨S_, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048x1024, .f32⟩
  | .hbm, ⟨22, _⟩ => ⟨S8x2048x1024, .f32⟩
  | .hbm, ⟨23, _⟩ => ⟨S512x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048x1024, .f32⟩
  | .hbm, ⟨33, _⟩ => ⟨S8x2048x1024, .f32⟩
  | .hbm, ⟨34, _⟩ => ⟨S512x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S1024x1024, .f32⟩
  | .hbm, ⟨39, _⟩ => ⟨S8x2048x1024, .f32⟩
  | .hbm, ⟨40, _⟩ => ⟨S8x2048x1024, .f32⟩
  | .hbm, ⟨41, _⟩ => ⟨S1024, .f32⟩
  | .hbm, ⟨42, _⟩ => ⟨S8x2048x1024, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S1024x2816, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S_, .f32⟩
  | .hbm, ⟨63, _⟩ => ⟨S8x2048x2816, .f32⟩
  | .hbm, ⟨64, _⟩ => ⟨S8x2048x2816, .f32⟩
  | .hbm, ⟨65, _⟩ => ⟨S_, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S1024x2816, .f32⟩
  | .hbm, ⟨70, _⟩ => ⟨S8x2048x2816, .f32⟩
  | .hbm, ⟨71, _⟩ => ⟨S8x2048x2816, .f32⟩
  | .hbm, ⟨72, _⟩ => ⟨S2816x1024, .f32⟩
  | .hbm, ⟨73, _⟩ => ⟨S8x2048x1024, .f32⟩
  | .hbm, ⟨74, _⟩ => ⟨S8x2048x1024, .f32⟩
  | .hbm, ⟨75, _⟩ => ⟨S8x2048x1024, .f32⟩
  | .hbm, ⟨76, _⟩ => ⟨S_, .f32⟩
  | .hbm, ⟨77, _⟩ => ⟨S8x2048, .f32⟩
  | .hbm, ⟨78, _⟩ => ⟨S8x2048x1, .f32⟩
  | .hbm, ⟨79, _⟩ => ⟨S_, .f32⟩
  | .hbm, ⟨80, _⟩ => ⟨S8x2048x1, .f32⟩
  | .hbm, ⟨81, _⟩ => ⟨S8x2048x1, .f32⟩
  | .hbm, ⟨82, _⟩ => ⟨S_, .f32⟩
  | .hbm, ⟨83, _⟩ => ⟨S8x2048x1, .f32⟩
  | .hbm, ⟨84, _⟩ => ⟨S8x2048x1, .f32⟩
  | .hbm, ⟨85, _⟩ => ⟨S8x2048x1, .f32⟩
  | .hbm, ⟨86, _⟩ => ⟨S8x2048x1024, .f32⟩
  | .hbm, ⟨87, _⟩ => ⟨S8x2048x1024, .f32⟩
  | .hbm, ⟨88, _⟩ => ⟨S1x1x1024, .f32⟩
  | .hbm, ⟨89, _⟩ => ⟨S8x2048x1024, .f32⟩
  | .hbm, ⟨90, _⟩ => ⟨S8x2048x1024, .f32⟩
  | .hbm, ⟨91, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Proof.RefFrame.lean ====
/-
  The two references run and keep their arguments.
-/
module

public import proofs.«01_k».proof.Defs
public import proofs.«01_k».proof.Proof.Gen.FoxRefIdeal
public import proofs.«01_k».proof.Proof.Gen.PostRefIdeal
public import proofs.«01_k».proof.Proof.Gen.FoxRefIdeal.Run
public import proofs.«01_k».proof.Proof.Gen.PostRefIdeal.Run
public import Idealize.ShloMosaic.Lib.Claim

@[expose] public section

set_option maxRecDepth 16384

noncomputable section

open Idealize.ShloMosaic Idealize.SL.Sem

namespace Cert.RefFrame

/-- The attention's reference runs and keeps its arguments. -/
theorem fox : quiescent_FoxRefIdeal (hFoxRefIdeal := Cert.FoxRefIdeal.Gen.facts) := by
  intro m ρ _
  exact (θ_run _ _ _).mono (fun r h => ⟨fun c => (h c).2, sem_eq_zero_of_no_sems (by decide) r.2⟩) (Cert.FoxRefIdeal.Value.run (F := Ideal) m ρ)

/-- The output block's reference runs and keeps its arguments. -/
theorem post : quiescent_PostRefIdeal (hPostRefIdeal := Cert.PostRefIdeal.Gen.facts) := by
  intro m ρ _
  exact (θ_run _ _ _).mono (fun r h => ⟨fun c => (h c).2, sem_eq_zero_of_no_sems (by decide) r.2⟩) (Cert.PostRefIdeal.Value.run (F := Ideal) m ρ)

end Cert.RefFrame
-- ==== Proof.PostRow.lean ====
/-
  The output block on ONE token's row, over the extended reals, and the kernel's payloads read as it.
-/
module

public import proofs.«01_k».proof.Proof.Gen.PostIdeal.Skeleton
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.PostRow

/-- The gated merge of the two branches at column `k`: each branch's projection under its gate. -/
def mix (zm zf : Fin 1024 → EReal) (ym yf : Fin 512 → EReal) (wm wf : Fin 512 → Fin 1024 → EReal) (k : Fin 1024) : EReal :=
  zm k * (∑ j, ym j * wm j k) + zf k * (∑ j, yf j * wf j k)

/-- The residual stream after the merged branches' output projection. -/
def res (x u : Fin 1024 → EReal) (wo : Fin 1024 → Fin 1024 → EReal) (d : Fin 1024) : EReal :=
  x d + ∑ k, u k * wo k d

/-- The reciprocal root of the mean square of a row, the guard added. -/
def scale (x : Fin 1024 → EReal) : EReal :=
  Ideal.rsqrt (Ideal.div (∑ k, x k * x k) (Ideal.ofBits .f32 0x44800000#32) + Ideal.ofBits .f32 0x358637BD#32)

/-- The root-mean-square norm of a row under a gain. -/
def rms (x g : Fin 1024 → EReal) (d : Fin 1024) : EReal := x d * scale x * g d

/-- The gated unit of the feed-forward at hidden column `f`. -/
def act (h : Fin 1024 → EReal) (wg wu : Fin 1024 → Fin 2816 → EReal) (f : Fin 2816) : EReal :=
  (∑ k, h k * wg k f) * Ideal.logistic (∑ k, h k * wg k f) * (∑ k, h k * wu k f)

/-- The feed-forward's output at column `d`: one contraction over all hidden columns. -/
def ffn (h : Fin 1024 → EReal) (wg wu : Fin 1024 → Fin 2816 → EReal) (wd : Fin 2816 → Fin 1024 → EReal) (d : Fin 1024) : EReal :=
  ∑ f, act h wg wu f * wd f d

/-- The block's output row from the residual row `x1`. -/
def out (x1 g2 gf : Fin 1024 → EReal) (wg wu : Fin 1024 → Fin 2816 → EReal) (wd : Fin 2816 → Fin 1024 → EReal) (d : Fin 1024) : EReal :=
  rms (fun e => x1 e + ffn (rms x1 g2) wg wu wd e) gf d

/-- A sum over the hidden columns is the sum of its eleven chunks of 256, added in order. -/
theorem sum_chunks (g : Fin 2816 → EReal) :
    ∑ f, g f = (∑ j : Fin 256, g ⟨j.val, by omega⟩) + (∑ j : Fin 256, g ⟨256 + j.val, by omega⟩)
      + (∑ j : Fin 256, g ⟨512 + j.val, by omega⟩) + (∑ j : Fin 256, g ⟨768 + j.val, by omega⟩)
      + (∑ j : Fin 256, g ⟨1024 + j.val, by omega⟩) + (∑ j : Fin 256, g ⟨1280 + j.val, by omega⟩)
      + (∑ j : Fin 256, g ⟨1536 + j.val, by omega⟩) + (∑ j : Fin 256, g ⟨1792 + j.val, by omega⟩)
      + (∑ j : Fin 256, g ⟨2048 + j.val, by omega⟩) + (∑ j : Fin 256, g ⟨2304 + j.val, by omega⟩)
      + (∑ j : Fin 256, g ⟨2560 + j.val, by omega⟩) := by
  have hc (o : ℕ) (ho : o + 256 ≤ 2816) : ∑ j : Fin 256, g ⟨o + j.val, by omega⟩
      = ∑ n ∈ Finset.range 256, (fun n => if h : n < 2816 then g ⟨n, h⟩ else 0) (o + n) := by
    rw [Finset.sum_range]
    refine Finset.sum_congr rfl fun j _ => ?_
    have : o + j.val < 2816 := by omega
    simp only [this, dif_pos]
  have h0 : ∑ j : Fin 256, g ⟨j.val, by omega⟩ = ∑ j : Fin 256, g ⟨0 + j.val, by omega⟩ :=
    Finset.sum_congr rfl fun j _ => congrArg g (Fin.ext (Nat.zero_add _).symm)
  rw [h0, hc 0 (by omega), hc 256 (by omega), hc 512 (by omega), hc 768 (by omega), hc 1024 (by omega), hc 1280 (by omega),
    hc 1536 (by omega), hc 1792 (by omega), hc 2048 (by omega), hc 2304 (by omega), hc 2560 (by omega)]
  have ht : ∑ f, g f = ∑ n ∈ Finset.range 2816, (fun n => if h : n < 2816 then g ⟨n, h⟩ else 0) n := by
    rw [Finset.sum_range]
    refine Finset.sum_congr rfl fun j _ => ?_
    simp only [j.isLt, dif_pos, Fin.eta]
  rw [ht]
  generalize (fun n => if h : n < 2816 then g ⟨n, h⟩ else 0) = G
  have hs (o : ℕ) : ∑ n ∈ Finset.range (o + 256), G n = ∑ n ∈ Finset.range o, G n + ∑ n ∈ Finset.range 256, G (o + n) :=
    Finset.sum_range_add G o 256
  rw [show (2816 : ℕ) = 2560 + 256 from rfl, hs 2560, show (2560 : ℕ) = 2304 + 256 from rfl, hs 2304,
    show (2304 : ℕ) = 2048 + 256 from rfl, hs 2048, show (2048 : ℕ) = 1792 + 256 from rfl, hs 1792,
    show (1792 : ℕ) = 1536 + 256 from rfl, hs 1536, show (1536 : ℕ) = 1280 + 256 from rfl, hs 1280,
    show (1280 : ℕ) = 1024 + 256 from rfl, hs 1024, show (1024 : ℕ) = 768 + 256 from rfl, hs 768,
    show (768 : ℕ) = 512 + 256 from rfl, hs 512, show (512 : ℕ) = 256 + 256 from rfl, hs 256]
  simp only [Nat.zero_add]

open Cert.PostIdeal Cert.PostIdeal.Gen

/-- The residual payload at `(r, d)` is the residual row of row `r`. -/
theorem pay2_apply (v0 v5 : FVec Ideal S512x512 .bf16) (v2 v7 v10 v14 : FVec Ideal S512x1024 .bf16) (v19 : FVec Ideal S512x1024 .f32)
    (v22 : FVec Ideal S1024x1024 .bf16) (r : Fin 512) (d : Fin 1024) :
    k0_pay2 (F := Ideal) v0 v2 v5 v7 v10 v14 v19 v22 (ix2 r d)
      = res (fun e => v19 (ix2 r e)) (mix (fun k => v10 (ix2 r k)) (fun k => v14 (ix2 r k)) (fun j => v0 (ix2 r j))
          (fun j => v5 (ix2 r j)) (fun j k => v2 (ix2 j k)) (fun j k => v7 (ix2 j k))) (fun k e => v22 (ix2 k e)) d := by
  pointwise [k0_pay2]
  rfl

/-- The normed payload at `(r, k)`. -/
theorem pay4_apply (v0 v5 : FVec Ideal S512x512 .bf16) (v2 v7 v10 v14 : FVec Ideal S512x1024 .bf16) (v19 : FVec Ideal S512x1024 .f32)
    (v22 : FVec Ideal S1024x1024 .bf16) (g : FVec Ideal S1x1024 .f32) (r : Fin 512) (k : Fin 1024) :
    k0_pay4 (F := Ideal) (k0_pay2 v0 v2 v5 v7 v10 v14 v19 v22) g (k0_pay3 v0 v2 v5 v7 v10 v14 v19 v22) (ix2 r k)
      = rms (fun e => k0_pay2 (F := Ideal) v0 v2 v5 v7 v10 v14 v19 v22 (ix2 r e)) (fun e => g (ix2 0 e)) k := by
  pointwise [k0_pay4, k0_pay3]
  rfl

/-- One chunk of 256 hidden columns' share of the feed-forward's output at column `d`. -/
def piece (h : Fin 1024 → EReal) (wg wu : Vec Ideal S1024x256 .bf16) (wd : Vec Ideal S256x1024 .bf16) (d : Fin 1024) : EReal :=
  ∑ j : Fin 256, (∑ k, h k * wg (ix2 k j)) * Ideal.logistic (∑ k, h k * wg (ix2 k j)) * (∑ k, h k * wu (ix2 k j)) * wd (ix2 j d)

/-- The first two chunks' payload. -/
theorem pay5_apply (x : FVec Ideal S512x1024 .f32) (g : Vec Ideal S1x1024 .f32) (s : FVec Ideal S512x1 .f32)
    (a0 a1 : Vec Ideal S1024x256 .bf16) (a2 : Vec Ideal S256x1024 .bf16) (b0 b1 : Vec Ideal S1024x256 .bf16) (b2 : Vec Ideal S256x1024 .bf16)
    (r : Fin 512) (d : Fin 1024) :
    k0_pay5 (F := Ideal) x g s a0 a1 a2 b0 b1 b2 (ix2 r d)
      = piece (fun k => k0_pay4 (F := Ideal) x g s (ix2 r k)) a0 a1 a2 d + piece (fun k => k0_pay4 (F := Ideal) x g s (ix2 r k)) b0 b1 b2 d := by
  pointwise [k0_pay5]
  rfl

/-- The third and fourth chunks' payload. -/
theorem pay7_apply (x : FVec Ideal S512x1024 .f32) (g : Vec Ideal S1x1024 .f32) (s : FVec Ideal S512x1 .f32)
    (acc : FVec Ideal S512x1024 .f32)
    (a0 a1 : Vec Ideal S1024x256 .bf16) (a2 : Vec Ideal S256x1024 .bf16) (b0 b1 : Vec Ideal S1024x256 .bf16) (b2 : Vec Ideal S256x1024 .bf16)
    (r : Fin 512) (d : Fin 1024) :
    k0_pay7 (F := Ideal) (k0_pay4 x g s) acc (k0_pay6 x g s a0) a1 a2 b0 b1 b2 (ix2 r d)
      = acc (ix2 r d) + piece (fun k => k0_pay4 (F := Ideal) x g s (ix2 r k)) a0 a1 a2 d
        + piece (fun k => k0_pay4 (F := Ideal) x g s (ix2 r k)) b0 b1 b2 d := by
  pointwise [k0_pay7, k0_pay6]
  rfl

/-- The fifth to seventh chunks' payload. -/
theorem pay10_apply (h : FVec Ideal S512x1024 .bf16) (acc : FVec Ideal S512x1024 .f32)
    (a0 a1 : Vec Ideal S1024x256 .bf16) (a2 : Vec Ideal S256x1024 .bf16) (b0 b1 : Vec Ideal S1024x256 .bf16) (b2 : Vec Ideal S256x1024 .bf16)
    (c0 c1 : Vec Ideal S1024x256 .bf16) (c2 : Vec Ideal S256x1024 .bf16) (r : Fin 512) (d : Fin 1024) :
    k0_pay10 (F := Ideal) h acc (k0_pay8 h a0 a1) (k0_pay9 a2) (constant (F := Ideal) S512x1024 .f32 0x00000000#32) b0 b1 b2 c0 c1 c2 (ix2 r d)
      = acc (ix2 r d) + piece (fun k => h (ix2 r k)) a0 a1 a2 d + piece (fun k => h (ix2 r k)) b0 b1 b2 d
        + piece (fun k => h (ix2 r k)) c0 c1 c2 d := by
  pointwise [k0_pay10, k0_pay8, k0_pay9]
  rfl

/-- The eighth to tenth chunks' payload. -/
theorem pay13_apply (h : FVec Ideal S512x1024 .bf16) (acc : FVec Ideal S512x1024 .f32)
    (a0 a1 : Vec Ideal S1024x256 .bf16) (a2 : Vec Ideal S256x1024 .bf16) (b0 b1 : Vec Ideal S1024x256 .bf16) (b2 : Vec Ideal S256x1024 .bf16)
    (c0 c1 : Vec Ideal S1024x256 .bf16) (c2 : Vec Ideal S256x1024 .bf16) (r : Fin 512) (d : Fin 1024) :
    k0_pay13 (F := Ideal) h acc (k0_pay11 h a0) (k0_pay12 h a1) a2 b0 b1 b2 c0 c1 c2 (ix2 r d)
      = acc (ix2 r d) + piece (fun k => h (ix2 r k)) a0 a1 a2 d + piece (fun k => h (ix2 r k)) b0 b1 b2 d
        + piece (fun k => h (ix2 r k)) c0 c1 c2 d := by
  pointwise [k0_pay13, k0_pay11, k0_pay12]
  rfl

/-- The last chunk and the closing norm. -/
theorem pay1_apply (x : FVec Ideal S512x1024 .f32) (h : FVec Ideal S512x1024 .bf16) (acc : FVec Ideal S512x1024 .f32)
    (a0 a1 : Vec Ideal S1024x256 .bf16) (a2 : Vec Ideal S256x1024 .bf16) (g : Vec Ideal S1x1024 .f32) (r : Fin 512) (d : Fin 1024) :
    k0_pay1 (F := Ideal) x h acc a0 a1 a2 g (ix2 r d)
      = rms (fun e => x (ix2 r e) + (acc (ix2 r e) + piece (fun k => h (ix2 r k)) a0 a1 a2 e)) (fun e => g (ix2 0 e)) d := by
  pointwise [k0_pay1]
  rfl

end Cert.PostRow

end
-- ==== Proof.PostValue.lean ====
/-
  The output block's kernel: its result array, row by row.
-/
module

public import proofs.«01_k».proof.Proof.Gen.PostIdeal.Value
public import proofs.«01_k».proof.Proof.PostRow
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.PostIdeal Cert.PostIdeal.Gen

namespace Cert.PostRow

theorem hz : (![0, 0] : Fin 2 → Nat) = fun _ => 0 := funext fun a => by fin_cases a <;> rfl

/-- A chunk's share with its weights loaded from the whole arrays at column (row) `o`. -/
theorem piece_ld (h : Fin 1024 → EReal) (wg wu : Vec Ideal S1024x2816 .bf16) (wd : Vec Ideal S2816x1024 .bf16) (o : ℕ) (ho : o + 256 ≤ 2816)
    (hg : ∀ a, (![0, o] : Fin 2 → ℕ) a + S1024x256.size a ≤ S1024x2816.size a) (hd : ∀ a, (![o, 0] : Fin 2 → ℕ) a + S256x1024.size a ≤ S2816x1024.size a) (d : Fin 1024) :
    piece h (View.ld wg (Rect.unit (s := S1024x2816) ![0, o] S1024x256.size hg)) (View.ld wu (Rect.unit (s := S1024x2816) ![0, o] S1024x256.size hg))
        (View.ld wd (Rect.unit (s := S2816x1024) ![o, 0] S256x1024.size hd)) d
      = ∑ j : Fin 256, act h (fun k f => wg (ix2 k f)) (fun k f => wu (ix2 k f)) ⟨o + j.val, by omega⟩ * wd (ix2 ⟨o + j.val, by omega⟩ d) := by
  pointwise [piece, act]

/-- The body's result block at `(r, d)`: the block's output row of row `r`. -/
theorem out_apply (x0 : Vec Ideal S512x1024 .f32) (x1 x2 : Vec Ideal S512x512 .bf16) (x3 : Vec Ideal S512x2048 .bf16) (x4 x5 : Vec Ideal S512x1024 .bf16)
    (x6 : Vec Ideal S1024x1024 .bf16) (x7 : Vec Ideal S1x1024 .f32) (x8 x9 : Vec Ideal S1024x2816 .bf16) (x10 : Vec Ideal S2816x1024 .bf16) (x11 : Vec Ideal S1x1024 .f32)
    (r : Fin 512) (d : Fin 1024) :
    out0_12 (F := Ideal) x0 x1 x2 x3 x4 x5 x6 x7 x8 x9 x10 x11 (ix2 r d)
      = out (res (fun e => x0 (ix2 r e)) (mix (fun k => x3 (ix2 r ⟨k.val, by omega⟩)) (fun k => x3 (ix2 r ⟨1024 + k.val, by omega⟩))
            (fun j => x1 (ix2 r j)) (fun j => x2 (ix2 r j)) (fun j k => x4 (ix2 j k)) (fun j k => x5 (ix2 j k))) (fun k e => x6 (ix2 k e)))
          (fun e => x7 (ix2 0 e)) (fun e => x11 (ix2 0 e)) (fun k f => x8 (ix2 k f)) (fun k f => x9 (ix2 k f)) (fun f e => x10 (ix2 f e)) d := by
  have l0 : View.ld x0 r0_1 = x0 := View.ld_unit_zero hz _ _
  have l1 : View.ld x1 r0_0 = x1 := View.ld_unit_zero hz _ _
  have l2 : View.ld x2 r0_0 = x2 := View.ld_unit_zero hz _ _
  have l4 : View.ld x4 r0_1 = x4 := View.ld_unit_zero hz _ _
  have l5 : View.ld x5 r0_1 = x5 := View.ld_unit_zero hz _ _
  have l6 : View.ld x6 r0_4 = x6 := View.ld_unit_zero hz _ _
  have l7 : View.ld x7 r0_5 = x7 := View.ld_unit_zero hz _ _
  have l11 (e : Fin 1024) : View.ld x11 r0_5 (ix2 0 e) = x11 (ix2 0 e) := congrFun (View.ld_unit_zero hz _ _) _
  have l3 (k : Fin 1024) : View.ld x3 r0_2 (ix2 r k) = x3 (ix2 r ⟨k.val, by omega⟩) := by pointwise
  have l3' (k : Fin 1024) : View.ld x3 r0_3 (ix2 r k) = x3 (ix2 r ⟨1024 + k.val, by omega⟩) := by pointwise
  have p0 (h : Fin 1024 → EReal) (e : Fin 1024) := piece_ld h x8 x9 x10 0 (by omega) inb_S1024x2816_S1024x256_0_0 inb_S2816x1024_S256x1024_0_0 e
  have p256 (h : Fin 1024 → EReal) (e : Fin 1024) := piece_ld h x8 x9 x10 256 (by omega) inb_S1024x2816_S1024x256_0_256 inb_S2816x1024_S256x1024_256_0 e
  have p512 (h : Fin 1024 → EReal) (e : Fin 1024) := piece_ld h x8 x9 x10 512 (by omega) inb_S1024x2816_S1024x256_0_512 inb_S2816x1024_S256x1024_512_0 e
  have p768 (h : Fin 1024 → EReal) (e : Fin 1024) := piece_ld h x8 x9 x10 768 (by omega) inb_S1024x2816_S1024x256_0_768 inb_S2816x1024_S256x1024_768_0 e
  have p1024 (h : Fin 1024 → EReal) (e : Fin 1024) := piece_ld h x8 x9 x10 1024 (by omega) inb_S1024x2816_S1024x256_0_1024 inb_S2816x1024_S256x1024_1024_0 e
  have p1280 (h : Fin 1024 → EReal) (e : Fin 1024) := piece_ld h x8 x9 x10 1280 (by omega) inb_S1024x2816_S1024x256_0_1280 inb_S2816x1024_S256x1024_1280_0 e
  have p1536 (h : Fin 1024 → EReal) (e : Fin 1024) := piece_ld h x8 x9 x10 1536 (by omega) inb_S1024x2816_S1024x256_0_1536 inb_S2816x1024_S256x1024_1536_0 e
  have p1792 (h : Fin 1024 → EReal) (e : Fin 1024) := piece_ld h x8 x9 x10 1792 (by omega) inb_S1024x2816_S1024x256_0_1792 inb_S2816x1024_S256x1024_1792_0 e
  have p2048 (h : Fin 1024 → EReal) (e : Fin 1024) := piece_ld h x8 x9 x10 2048 (by omega) inb_S1024x2816_S1024x256_0_2048 inb_S2816x1024_S256x1024_2048_0 e
  have p2304 (h : Fin 1024 → EReal) (e : Fin 1024) := piece_ld h x8 x9 x10 2304 (by omega) inb_S1024x2816_S1024x256_0_2304 inb_S2816x1024_S256x1024_2304_0 e
  have p2560 (h : Fin 1024 → EReal) (e : Fin 1024) := piece_ld h x8 x9 x10 2560 (by omega) inb_S1024x2816_S1024x256_0_2560 inb_S2816x1024_S256x1024_2560_0 e
  unfold out0_12 k0_pay16
  rw [View.canon_unit_zero hz]
  rw [pay1_apply]
  simp only [pay13_apply, pay10_apply, pay7_apply, pay5_apply]
  unfold k0_pay14 k0_pay15
  simp only [pay4_apply, pay2_apply, l0, l1, l2, l3, l3', l4, l5, l6, l7, l11]
  generalize res _ _ _ = x
  unfold out ffn
  simp only [sum_chunks]
  refine congrArg (fun f => rms f _ d) (funext fun e => congrArg (x e + ·) ?_)
  rw [p0, p256, p512, p768, p1024, p1280, p1536, p1792, p2048, p2304, p2560]
  simp only [Nat.zero_add]

/-- The whole result at token `s` of sequence `b`, column `d`, from the thirteen arguments. -/
def all (x : FVec Ideal S8x2048x1024 .f32) (ym yf : FVec Ideal S8x2048x512 .bf16) (gm gf : FVec Ideal S8x2048x1024 .f32) (wm wf : FVec Ideal S1x512x1024 .f32)
    (wo : FVec Ideal S1x1024x1024 .f32) (g2 : FVec Ideal S1x1024 .f32) (wg wu : FVec Ideal S1x1024x2816 .f32) (wd : FVec Ideal S1x2816x1024 .f32)
    (gl : FVec Ideal S1024 .f32) (b : Fin 8) (s : Fin 2048) (d : Fin 1024) : EReal :=
  out (res (fun e => x (ix3 b s e)) (mix (fun k => Ideal.logistic (gm (ix3 b s k))) (fun k => Ideal.logistic (gf (ix3 b s k)))
        (fun j => ym (ix3 b s j)) (fun j => yf (ix3 b s j)) (fun j k => wm (ix3 0 j k)) (fun j k => wf (ix3 0 j k))) (fun k e => wo (ix3 0 k e)))
    (fun e => g2 (ix2 0 e)) (fun e => gl (ix1 e)) (fun k f => wg (ix3 0 k f)) (fun k f => wu (ix3 0 k f)) (fun f e => wd (ix3 0 f e)) d

variable (m : (ℓ : Loc nD τ sig) → Buf (Elt Ideal) ℓ)

/-- The result array as one function of device `c`'s arguments. -/
def G (c : Dev nD) : FVec Ideal S16384x1024 .f32 := fun i =>
  all (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) ⟨(i 0).val / 2048, by have : (i 0).val < 16384 := (i 0).isLt; omega⟩ ⟨(i 0).val % 2048, Nat.mod_lt _ (by omega)⟩ (i 1)

/-- Where each window's block lies at grid point `t`. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] ∧ t.val < 32 :=
  (by decide +kernel : ∀ t : Fin grid0.N, _)

/-! ### Each window's block read at an entry -/

theorem read0 (c : Dev nD) (t : Fin cfg0.N) (r : Fin 512) (e : Fin 1024) (hb : (512 * t.val + r.val) / 2048 < 8) (hs : (512 * t.val + r.val) % 2048 < 2048) :
    (iblk m c 0 t : Vec Ideal S512x1024 .f32) (ix2 r e) = m ((c : Thread nD τ).loc main_arg0) (ix3 ⟨(512 * t.val + r.val) / 2048, hb⟩ ⟨(512 * t.val + r.val) % 2048, hs⟩ e) := by
  have := (idx t).2.2.2.2.2.2.2.2.2.2.2.2.2
  blk_simp [iblk, V, idx t]
  entry_read
  pointwise
  blk_ext [idx t]

theorem read1 (c : Dev nD) (t : Fin cfg0.N) (r : Fin 512) (e : Fin 512) (hb : (512 * t.val + r.val) / 2048 < 8) (hs : (512 * t.val + r.val) % 2048 < 2048) :
    (iblk m c 1 t : Vec Ideal S512x512 .bf16) (ix2 r e) = m ((c : Thread nD τ).loc main_arg1) (ix3 ⟨(512 * t.val + r.val) / 2048, hb⟩ ⟨(512 * t.val + r.val) % 2048, hs⟩ e) := by
  have := (idx t).2.2.2.2.2.2.2.2.2.2.2.2.2
  blk_simp [iblk, V, idx t]
  entry_read
  pointwise
  blk_ext [idx t]

theorem read2 (c : Dev nD) (t : Fin cfg0.N) (r : Fin 512) (e : Fin 512) (hb : (512 * t.val + r.val) / 2048 < 8) (hs : (512 * t.val + r.val) % 2048 < 2048) :
    (iblk m c 2 t : Vec Ideal S512x512 .bf16) (ix2 r e) = m ((c : Thread nD τ).loc main_arg2) (ix3 ⟨(512 * t.val + r.val) / 2048, hb⟩ ⟨(512 * t.val + r.val) % 2048, hs⟩ e) := by
  have := (idx t).2.2.2.2.2.2.2.2.2.2.2.2.2
  blk_simp [iblk, V, idx t]
  entry_read
  pointwise
  blk_ext [idx t]

theorem read3a (c : Dev nD) (t : Fin cfg0.N) (r : Fin 512) (k : Fin 1024) (hk : k.val < 2048) (hb : (512 * t.val + r.val) / 2048 < 8) (hs : (512 * t.val + r.val) % 2048 < 2048) :
    (iblk m c 3 t : Vec Ideal S512x2048 .bf16) (ix2 r ⟨k.val, hk⟩) = Ideal.logistic (m ((c : Thread nD τ).loc main_arg3) (ix3 ⟨(512 * t.val + r.val) / 2048, hb⟩ ⟨(512 * t.val + r.val) % 2048, hs⟩ k)) := by
  have := (idx t).2.2.2.2.2.2.2.2.2.2.2.2.2
  blk_simp [iblk, V, idx t]
  entry_read
  pointwise
  blk_point [idx t]
  simp only [dif_pos k.isLt, Nat.mul_comm t.val 512]
  rfl

theorem read3b (c : Dev nD) (t : Fin cfg0.N) (r : Fin 512) (k : Fin 1024) (hk : 1024 + k.val < 2048) (hb : (512 * t.val + r.val) / 2048 < 8) (hs : (512 * t.val + r.val) % 2048 < 2048) :
    (iblk m c 3 t : Vec Ideal S512x2048 .bf16) (ix2 r ⟨1024 + k.val, hk⟩) = Ideal.logistic (m ((c : Thread nD τ).loc main_arg4) (ix3 ⟨(512 * t.val + r.val) / 2048, hb⟩ ⟨(512 * t.val + r.val) % 2048, hs⟩ k)) := by
  have := (idx t).2.2.2.2.2.2.2.2.2.2.2.2.2
  blk_simp [iblk, V, idx t]
  entry_read
  pointwise
  blk_point [idx t]
  simp only [dif_neg (show ¬ 1024 + k.val < 1024 by omega), Nat.add_sub_cancel_left, Nat.mul_comm t.val 512]
  rfl

theorem read4 (c : Dev nD) (t : Fin cfg0.N) (i : Fin 512) (j : Fin 1024) :
    (iblk m c 4 t : Vec Ideal S512x1024 .bf16) (ix2 i j) = m ((c : Thread nD τ).loc main_arg5) (ix3 0 i j) := by
  have := (idx t).2.2.2.2.2.2.2.2.2.2.2.2.2
  blk_simp [iblk, V, idx t]
  entry_read
  pointwise
  blk_ext [idx t]

theorem read5 (c : Dev nD) (t : Fin cfg0.N) (i : Fin 512) (j : Fin 1024) :
    (iblk m c 5 t : Vec Ideal S512x1024 .bf16) (ix2 i j) = m ((c : Thread nD τ).loc main_arg6) (ix3 0 i j) := by
  have := (idx t).2.2.2.2.2.2.2.2.2.2.2.2.2
  blk_simp [iblk, V, idx t]
  entry_read
  pointwise
  blk_ext [idx t]

theorem read6 (c : Dev nD) (t : Fin cfg0.N) (i : Fin 1024) (j : Fin 1024) :
    (iblk m c 6 t : Vec Ideal S1024x1024 .bf16) (ix2 i j) = m ((c : Thread nD τ).loc main_arg7) (ix3 0 i j) := by
  have := (idx t).2.2.2.2.2.2.2.2.2.2.2.2.2
  blk_simp [iblk, V, idx t]
  entry_read
  pointwise
  blk_ext [idx t]

theorem read8 (c : Dev nD) (t : Fin cfg0.N) (i : Fin 1024) (j : Fin 2816) :
    (iblk m c 8 t : Vec Ideal S1024x2816 .bf16) (ix2 i j) = m ((c : Thread nD τ).loc main_arg9) (ix3 0 i j) := by
  have := (idx t).2.2.2.2.2.2.2.2.2.2.2.2.2
  blk_simp [iblk, V, idx t]
  entry_read
  pointwise
  blk_ext [idx t]

theorem read9 (c : Dev nD) (t : Fin cfg0.N) (i : Fin 1024) (j : Fin 2816) :
    (iblk m c 9 t : Vec Ideal S1024x2816 .bf16) (ix2 i j) = m ((c : Thread nD τ).loc main_arg10) (ix3 0 i j) := by
  have := (idx t).2.2.2.2.2.2.2.2.2.2.2.2.2
  blk_simp [iblk, V, idx t]
  entry_read
  pointwise
  blk_ext [idx t]

theorem read10 (c : Dev nD) (t : Fin cfg0.N) (i : Fin 2816) (j : Fin 1024) :
    (iblk m c 10 t : Vec Ideal S2816x1024 .bf16) (ix2 i j) = m ((c : Thread nD τ).loc main_arg11) (ix3 0 i j) := by
  have := (idx t).2.2.2.2.2.2.2.2.2.2.2.2.2
  blk_simp [iblk, V, idx t]
  entry_read
  pointwise
  blk_ext [idx t]

theorem read7 (c : Dev nD) (t : Fin cfg0.N) (j : Fin 1024) :
    (iblk m c 7 t : Vec Ideal S1x1024 .f32) (ix2 0 j) = m ((c : Thread nD τ).loc main_arg8) (ix2 0 j) := by
  have := (idx t).2.2.2.2.2.2.2.2.2.2.2.2.2
  blk_ext [iblk, V, idx t]

theorem read11 (c : Dev nD) (t : Fin cfg0.N) (j : Fin 1024) :
    (iblk m c 11 t : Vec Ideal S1x1024 .f32) (ix2 0 j) = m ((c : Thread nD τ).loc main_arg12) (ix1 j) := by
  have := (idx t).2.2.2.2.2.2.2.2.2.2.2.2.2
  blk_simp [iblk, V, idx t]
  entry_read
  pointwise
  blk_ext [idx t]

/-- The result array ends holding the block's output rows. -/
theorem final (c : Dev nD) : (dats m 0 c).arrAt 12 cfg0.N = G m c := by
  refine (dats m 0 c).arrAt_eq_of_covers 12 _ (by decide +kernel) fun t hf y => ?_
  have ht := (idx t).2.2.2.2.2.2.2.2.2.2.2.2.2
  blk_simp
  rw [after0_12]
  idx_vars y
  rw [out_apply]
  have hr : y0.val < 512 := y0.isLt
  have hb : (512 * t.val + y0.val) / 2048 < 8 := by omega
  have hs : (512 * t.val + y0.val) % 2048 < 2048 := Nat.mod_lt _ (by omega)
  have e0 : ((((View.whole main_v25).slice (win0_12.rect t)).emb (ix2 y0 y1)) 0 : Nat) = t.val * 512 + y0.val := by
    blk_ext [idx t]
  have e1 : (((View.whole main_v25).slice (win0_12.rect t)).emb (ix2 y0 y1)) 1 = y1 := Fin.ext (by blk_ext [idx t])
  simp only [read0 m c t y0 _ hb hs, read1 m c t y0 _ hb hs, read2 m c t y0 _ hb hs, read3a m c t y0 _ _ hb hs,
    read3b m c t y0 _ _ hb hs, read4, read5, read6, read7, read8, read9, read10, read11]
  unfold G all
  simp only [e0, Nat.mul_comm t.val 512, e1]

end Cert.PostRow

end
-- ==== Proof.PostRef.lean ====
/-
  The output block's reference: its result array, row by row.
-/
module

public import proofs.«01_k».proof.Proof.Gen.PostRefIdeal.Run
public import proofs.«01_k».proof.Proof.PostValue

@[expose] public section

set_option maxRecDepth 16384

noncomputable section

open Idealize.ShloMosaic Idealize.ShloMosaic.TcCoe Idealize.SL.Sem
open Cert.PostRefIdeal Cert.PostRefIdeal.Gen

namespace Cert.PostRow

/-- The gates' sigmoid over a whole array. -/
def vSig (x : FVec Ideal S8x2048x1024 .f32) : FVec Ideal S8x2048x1024 .f32 :=
  Host.divf (broadcastInDim S8x2048x1024 ![] bcast_S_S8x2048x1024 (constant S_ .f32 0x3F800000#32))
    (addf (broadcastInDim S8x2048x1024 ![] bcast_S_S8x2048x1024 (constant S_ .f32 0x3F800000#32)) (Host.exp (Host.negf x)))

/-- One branch's projection under its gate, over a whole array. -/
def vBranch (y : FVec Ideal S8x2048x512 .bf16) (g : FVec Ideal S8x2048x1024 .f32) (w : FVec Ideal S1x512x1024 .f32) : FVec Ideal S8x2048x1024 .f32 :=
  mulf (vSig g) (Host.dotGeneral dot_S8x2048x512_S512x1024_S8x2048x1024_2_0_01_1_n_n none (extf .f32 y bitsLt_bf16_f32)
    (shapeCast S512x1024 w shapeCasts_S1x512x1024_S512x1024))

/-- The residual stream after the merge, over the whole array. -/
def vRes (x : FVec Ideal S8x2048x1024 .f32) (u v : FVec Ideal S8x2048x1024 .f32) (wo : FVec Ideal S1x1024x1024 .f32) : FVec Ideal S8x2048x1024 .f32 :=
  addf x (Host.dotGeneral dot_S8x2048x1024_S1024x1024_S8x2048x1024_2_0_01_1_n_n none (addf u v)
    (shapeCast S1024x1024 wo shapeCasts_S1x1024x1024_S1024x1024))

/-- The norm over the whole array. -/
def vNorm (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- One projection to the hidden columns, over the whole array. -/
def vHid (h : FVec Ideal S8x2048x1024 .f32) (w : FVec Ideal S1x1024x2816 .f32) : FVec Ideal S8x2048x2816 .f32 :=
  Host.dotGeneral dot_S8x2048x1024_S1024x2816_S8x2048x2816_2_0_01_1_n_n none h (shapeCast S1024x2816 w shapeCasts_S1x1024x2816_S1024x2816)

/-- The feed-forward over the whole array. -/
def vFfn (g u : FVec Ideal S8x2048x2816 .f32) (wd : FVec Ideal S1x2816x1024 .f32) : FVec Ideal S8x2048x1024 .f32 :=
  Host.dotGeneral dot_S8x2048x2816_S2816x1024_S8x2048x1024_2_0_01_1_n_n none
    (mulf (mulf g (Host.divf (broadcastInDim S8x2048x2816 ![] bcast_S_S8x2048x2816 (constant S_ .f32 0x3F800000#32))
      (addf (broadcastInDim S8x2048x2816 ![] bcast_S_S8x2048x2816 (constant S_ .f32 0x3F800000#32)) (Host.exp (Host.negf g))))) u)
    (shapeCast S2816x1024 wd shapeCasts_S1x2816x1024_S2816x1024)

/-- The second half from the residual stream. -/
def vOut (x : FVec Ideal S8x2048x1024 .f32) (g2 : FVec Ideal S1x1024 .f32) (wg wu : FVec Ideal S1x1024x2816 .f32) (wd : FVec Ideal S1x2816x1024 .f32)
    (gl : FVec Ideal S1024 .f32) : FVec Ideal S16384x1024 .f32 :=
  shapeCast S16384x1024 (vNorm (addf x (vFfn (vHid (vNorm x (shapeCast S1024 g2 shapeCasts_S1x1024_S1024)) wg)
    (vHid (vNorm x (shapeCast S1024 g2 shapeCasts_S1x1024_S1024)) wu) wd)) gl) shapeCasts_S8x2048x1024_S16384x1024

theorem vBranch_apply (y : FVec Ideal S8x2048x512 .bf16) (g : FVec Ideal S8x2048x1024 .f32) (w : FVec Ideal S1x512x1024 .f32) (b : Fin 8) (s : Fin 2048) (k : Fin 1024) :
    vBranch y g w (ix3 b s k) = Ideal.logistic (g (ix3 b s k)) * ∑ j : Fin 512, y (ix3 b s j) * w (ix3 0 j k) := by
  unfold Ideal.logistic
  pointwise [vBranch, vSig]

theorem vRes_apply (x u v : FVec Ideal S8x2048x1024 .f32) (wo : FVec Ideal S1x1024x1024 .f32) (b : Fin 8) (s : Fin 2048) (d : Fin 1024) :
    vRes x u v wo (ix3 b s d) = x (ix3 b s d) + ∑ k : Fin 1024, (u (ix3 b s k) + v (ix3 b s k)) * wo (ix3 0 k d) := by
  pointwise [vRes]

theorem vNorm_apply (x : FVec Ideal S8x2048x1024 .f32) (g : FVec Ideal S1024 .f32) (b : Fin 8) (s : Fin 2048) (d : Fin 1024) :
    vNorm x g (ix3 b s d) = rms (fun e => x (ix3 b s e)) (fun e => g (ix1 e)) d := by
  pointwise [vNorm, rms, scale]

theorem vHid_apply (h : FVec Ideal S8x2048x1024 .f32) (w : FVec Ideal S1x1024x2816 .f32) (b : Fin 8) (s : Fin 2048) (f : Fin 2816) :
    vHid h w (ix3 b s f) = ∑ k : Fin 1024, h (ix3 b s k) * w (ix3 0 k f) := by
  pointwise [vHid]

theorem vFfn_apply (g u : FVec Ideal S8x2048x2816 .f32) (wd : FVec Ideal S1x2816x1024 .f32) (b : Fin 8) (s : Fin 2048) (d : Fin 1024) :
    vFfn g u wd (ix3 b s d) = ∑ f : Fin 2816, g (ix3 b s f) * Ideal.logistic (g (ix3 b s f)) * u (ix3 b s f) * wd (ix3 0 f d) := by
  unfold Ideal.logistic
  pointwise [vFfn]

theorem vOut_apply (x : FVec Ideal S8x2048x1024 .f32) (g2 : FVec Ideal S1x1024 .f32) (wg wu : FVec Ideal S1x1024x2816 .f32) (wd : FVec Ideal S1x2816x1024 .f32)
    (gl : FVec Ideal S1024 .f32) (i : Fin 16384) (d : Fin 1024) :
    vOut x g2 wg wu wd gl (ix2 i d)
      = out (fun e => x (ix3 ⟨i.val / 2048, by omega⟩ ⟨i.val % 2048, Nat.mod_lt _ (by omega)⟩ e)) (fun e => g2 (ix2 0 e)) (fun e => gl (ix1 e))
          (fun k f => wg (ix3 0 k f)) (fun k f => wu (ix3 0 k f)) (fun f e => wd (ix3 0 f e)) d := by
  have hg (e : Fin 1024) : shapeCast S1024 g2 shapeCasts_S1x1024_S1024 (ix1 e) = g2 (ix2 0 e) := by pointwise
  have hx (n : FVec Ideal S8x2048x1024 .f32) : shapeCast S16384x1024 n shapeCasts_S8x2048x1024_S16384x1024 (ix2 i d)
      = n (ix3 ⟨i.val / 2048, by omega⟩ ⟨i.val % 2048, Nat.mod_lt _ (by omega)⟩ d) := by pointwise
  have ha (a b : FVec Ideal S8x2048x1024 .f32) (j : S8x2048x1024.Idx) : addf a b j = a j + b j := rfl
  unfold vOut
  rw [hx, vNorm_apply]
  simp only [ha, vFfn_apply, vHid_apply, vNorm_apply, hg]
  rfl

variable (m : (ℓ : Loc nD τ sig) → Buf (Elt Ideal) ℓ)

/-- The reference's result at `(t, d)`: the output row of token `t`. -/
theorem ref_apply (c : Dev nD) (i : Fin 16384) (d : Fin 1024) :
    Value.res_main_v60 m c (ix2 i d)
      = all (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) ⟨i.val / 2048, by omega⟩ ⟨i.val % 2048, Nat.mod_lt _ (by omega)⟩ d := by
  have h : Value.res_main_v60 m c = vOut (vRes (m ((c.tc : Thread nD τ).loc main_arg0))
      (vBranch (m ((c.tc : Thread nD τ).loc main_arg1)) (m ((c.tc : Thread nD τ).loc main_arg3)) (m ((c.tc : Thread nD τ).loc main_arg5)))
      (vBranch (m ((c.tc : Thread nD τ).loc main_arg2)) (m ((c.tc : Thread nD τ).loc main_arg4)) (m ((c.tc : Thread nD τ).loc main_arg6)))
      (m ((c.tc : Thread nD τ).loc main_arg7))) (m ((c.tc : Thread nD τ).loc main_arg8)) (m ((c.tc : Thread nD τ).loc main_arg9))
      (m ((c.tc : Thread nD τ).loc main_arg10)) (m ((c.tc : Thread nD τ).loc main_arg11)) (m ((c.tc : Thread nD τ).loc main_arg12)) := rfl
  rw [h, vOut_apply]
  simp only [vRes_apply, vBranch_apply]
  rfl

end Cert.PostRow
-- ==== Proof.PostClaim.lean ====
/-
  The output block's kernel and its reference end with the same result.
-/
module

public import proofs.«01_k».proof.Defs
public import proofs.«01_k».proof.Proof.PostRef

@[expose] public section

set_option maxRecDepth 16384

noncomputable section

open Idealize.ShloMosaic Idealize.ShloMosaic.TcCoe Idealize.SL.Sem

namespace Cert.PostRow

/-- The two result arrays are equal when the thirteen arguments are. -/
theorem ref_eq (m : (ℓ : Loc Cert.PostIdeal.nD Cert.PostIdeal.τ Cert.PostIdeal.sig) → Buf (Elt Ideal) ℓ)
    (m' : (ℓ : Loc Cert.PostRefIdeal.nD Cert.PostRefIdeal.τ Cert.PostRefIdeal.sig) → Buf (Elt Ideal) ℓ) (c : Dev Cert.PostIdeal.nD)
    (h0 : m' ((c.tc : Thread Cert.PostRefIdeal.nD Cert.PostRefIdeal.τ).loc Cert.PostRefIdeal.main_arg0) = m ((c.tc : Thread Cert.PostIdeal.nD Cert.PostIdeal.τ).loc Cert.PostIdeal.main_arg0))
    (h1 : m' ((c.tc : Thread Cert.PostRefIdeal.nD Cert.PostRefIdeal.τ).loc Cert.PostRefIdeal.main_arg1) = m ((c.tc : Thread Cert.PostIdeal.nD Cert.PostIdeal.τ).loc Cert.PostIdeal.main_arg1))
    (h2 : m' ((c.tc : Thread Cert.PostRefIdeal.nD Cert.PostRefIdeal.τ).loc Cert.PostRefIdeal.main_arg2) = m ((c.tc : Thread Cert.PostIdeal.nD Cert.PostIdeal.τ).loc Cert.PostIdeal.main_arg2))
    (h3 : m' ((c.tc : Thread Cert.PostRefIdeal.nD Cert.PostRefIdeal.τ).loc Cert.PostRefIdeal.main_arg3) = m ((c.tc : Thread Cert.PostIdeal.nD Cert.PostIdeal.τ).loc Cert.PostIdeal.main_arg3))
    (h4 : m' ((c.tc : Thread Cert.PostRefIdeal.nD Cert.PostRefIdeal.τ).loc Cert.PostRefIdeal.main_arg4) = m ((c.tc : Thread Cert.PostIdeal.nD Cert.PostIdeal.τ).loc Cert.PostIdeal.main_arg4))
    (h5 : m' ((c.tc : Thread Cert.PostRefIdeal.nD Cert.PostRefIdeal.τ).loc Cert.PostRefIdeal.main_arg5) = m ((c.tc : Thread Cert.PostIdeal.nD Cert.PostIdeal.τ).loc Cert.PostIdeal.main_arg5))
    (h6 : m' ((c.tc : Thread Cert.PostRefIdeal.nD Cert.PostRefIdeal.τ).loc Cert.PostRefIdeal.main_arg6) = m ((c.tc : Thread Cert.PostIdeal.nD Cert.PostIdeal.τ).loc Cert.PostIdeal.main_arg6))
    (h7 : m' ((c.tc : Thread Cert.PostRefIdeal.nD Cert.PostRefIdeal.τ).loc Cert.PostRefIdeal.main_arg7) = m ((c.tc : Thread Cert.PostIdeal.nD Cert.PostIdeal.τ).loc Cert.PostIdeal.main_arg7))
    (h8 : m' ((c.tc : Thread Cert.PostRefIdeal.nD Cert.PostRefIdeal.τ).loc Cert.PostRefIdeal.main_arg8) = m ((c.tc : Thread Cert.PostIdeal.nD Cert.PostIdeal.τ).loc Cert.PostIdeal.main_arg8))
    (h9 : m' ((c.tc : Thread Cert.PostRefIdeal.nD Cert.PostRefIdeal.τ).loc Cert.PostRefIdeal.main_arg9) = m ((c.tc : Thread Cert.PostIdeal.nD Cert.PostIdeal.τ).loc Cert.PostIdeal.main_arg9))
    (h10 : m' ((c.tc : Thread Cert.PostRefIdeal.nD Cert.PostRefIdeal.τ).loc Cert.PostRefIdeal.main_arg10) = m ((c.tc : Thread Cert.PostIdeal.nD Cert.PostIdeal.τ).loc Cert.PostIdeal.main_arg10))
    (h11 : m' ((c.tc : Thread Cert.PostRefIdeal.nD Cert.PostRefIdeal.τ).loc Cert.PostRefIdeal.main_arg11) = m ((c.tc : Thread Cert.PostIdeal.nD Cert.PostIdeal.τ).loc Cert.PostIdeal.main_arg11))
    (h12 : m' ((c.tc : Thread Cert.PostRefIdeal.nD Cert.PostRefIdeal.τ).loc Cert.PostRefIdeal.main_arg12) = m ((c.tc : Thread Cert.PostIdeal.nD Cert.PostIdeal.τ).loc Cert.PostIdeal.main_arg12)) :
    Cert.PostRefIdeal.Value.res_main_v60 m' c = G m c := by
  refine funext fun i => ?_
  rw [eq_ix2 i]
  refine (ref_apply m' c (i 0) (i 1)).trans ?_
  rw [h0, h1, h2, h3, h4, h5, h6, h7, h8, h9, h10, h11, h12]
  rfl

/-- The value claim of the output block. -/
theorem algebraic : algebraic_PostIdeal_PostRefIdeal (hPostIdeal := Cert.PostIdeal.Gen.facts) (hPostRefIdeal := Cert.PostRefIdeal.Gen.facts) := by
  intro m ρ m' ρ' _ hag
  refine ⟨fun c => G m c, (θ_run _ _ _).mono (fun _ h c => ⟨(h c).1.trans (final m c), (h c).2⟩) (Cert.PostIdeal.Value.run_blocks (F := Ideal) m ρ),
    (θ_run _ _ _).mono (fun _ h c => ⟨(h c).1.trans ?_, (h c).2⟩) (Cert.PostRefIdeal.Value.run (F := Ideal) m' ρ')⟩
  obtain ⟨h0, h1, h2, h3, h4, h5, h6, h7, h8, h9, h10, h11, h12⟩ := hag c
  exact ref_eq m m' c h0 h1 h2 h3 h4 h5 h6 h7 h8 h9 h10 h11 h12

end Cert.PostRow
-- ==== Proof.FoxMath.lean ====
/-
  The running softmax: a maximum and a weighted sum kept tile by tile, against the softmax taken at once.
-/
module

public import Idealize.ShloMosaic.Lib.Pipeline.ValueKit
public import Idealize.ShloMosaic.Lib.Pointwise

@[expose] public section

noncomputable section

open Idealize.ShloMosaic

namespace Cert.FoxMath

/-- The weight of a score against a maximum. -/
def wt (y m : EReal) : EReal := Ideal.exp2 (y - m)

/-- The maximum after one tile of scores. -/
def mx {n : Nat} (m : EReal) (y : Fin n → EReal) : EReal := max m (Finset.univ.fold max ⊥ y)

/-- The weighted sum after one tile of scores. -/
def ac {n : Nat} (m a : EReal) (y v : Fin n → EReal) : EReal := wt m (mx m y) * a + ∑ s, v s * wt (y s) (mx m y)

theorem exp2_nonneg (x : EReal) : 0 ≤ Ideal.exp2 x := by
  induction x with
  | bot => exact le_refl _
  | top => exact le_top
  | coe r => exact EReal.coe_nonneg.mpr (Real.rpow_nonneg (by norm_num) r)

/-- A weight is not negative. -/
theorem wt_nonneg (y m : EReal) : 0 ≤ wt y m := exp2_nonneg _

/-- The weight of an absent score is zero. -/
theorem wt_bot (m : EReal) : wt ⊥ m = 0 := by
  unfold wt; rw [EReal.bot_sub]; rfl

/-- The weight of one real against another. -/
theorem wt_coe (y m : ℝ) : wt (y : EReal) (m : EReal) = ((Real.rpow 2 (y - m) : ℝ) : EReal) := by
  unfold wt; rw [← EReal.coe_sub]; rfl

/-- A weight is finite. -/
theorem wt_ne_top {y m : EReal} (h : y ≤ m) (hm : m ≠ ⊤) : wt y m ≠ ⊤ := by
  induction y with
  | bot => rw [wt_bot]; exact EReal.zero_ne_top
  | top => exact absurd (top_le_iff.mp h) hm
  | coe y =>
    induction m with
    | bot => exact absurd (le_bot_iff.mp h) (EReal.coe_ne_bot y)
    | top => exact absurd rfl hm
    | coe m => rw [wt_coe]; exact EReal.coe_ne_top _

/-- Moving the maximum up multiplies the weight. -/
theorem wt_mul {y m m' : EReal} (h : y ≤ m) (h' : m ≤ m') (hm : m' ≠ ⊤) : wt m m' * wt y m = wt y m' := by
  induction y with
  | bot => rw [wt_bot, wt_bot, mul_zero]
  | top => exact absurd (top_le_iff.mp (le_trans h h')) hm
  | coe y =>
    induction m with
    | bot => exact absurd (le_bot_iff.mp h) (EReal.coe_ne_bot y)
    | top => exact absurd (top_le_iff.mp h') hm
    | coe m =>
      induction m' with
      | bot => exact absurd (le_bot_iff.mp h') (EReal.coe_ne_bot m)
      | top => exact absurd rfl hm
      | coe m' =>
        rw [wt_coe, wt_coe, wt_coe, ← EReal.coe_mul]
        refine congrArg _ ?_
        show (2 : ℝ) ^ (m - m') * (2 : ℝ) ^ (y - m) = (2 : ℝ) ^ (y - m')
        rw [← Real.rpow_add (by norm_num)]
        ring_nf

/-- A nonnegative finite factor goes through a sum. -/
theorem mul_sum_of_nonneg {ι : Type*} (c : EReal) (hc : 0 ≤ c) (hc' : c ≠ ⊤) (S : Finset ι) (f : ι → EReal) :
    c * ∑ s ∈ S, f s = ∑ s ∈ S, c * f s := by
  classical
  induction S using Finset.induction_on with
  | empty => rw [Finset.sum_empty, Finset.sum_empty, mul_zero]
  | insert a S ha ih =>
    rw [Finset.sum_insert ha, Finset.sum_insert ha, EReal.left_distrib_of_nonneg_of_ne_top hc hc', ih]

/-- What the running pair stands for after the first `n` keys. -/
def Inv (n : Nat) (y v : Nat → EReal) (m a : EReal) : Prop :=
  (∀ s, s < n → y s ≤ m) ∧ m ≠ ⊤ ∧ a = ∑ s ∈ Finset.range n, v s * wt (y s) m

/-- Only the scores of the keys taken in matter. -/
theorem Inv.congr {n : Nat} {y y' v : Nat → EReal} {m a : EReal} (h : Inv n y v m a) (e : ∀ s, s < n → y' s = y s) : Inv n y' v m a :=
  ⟨fun s hs => by rw [e s hs]; exact h.1 s hs, h.2.1, h.2.2.trans (Finset.sum_congr rfl fun s hs => by rw [e s (Finset.mem_range.1 hs)])⟩

/-- The number of keys, rewritten. -/
theorem Inv.cast_left {n n' : Nat} {y v : Nat → EReal} {m a : EReal} (e : n = n') (h : Inv n y v m a) : Inv n' y v m a := e ▸ h

/-- Before any key. -/
theorem inv_zero (y v : Nat → EReal) : Inv 0 y v ⊥ 0 :=
  ⟨fun s h => absurd h (Nat.not_lt_zero s), bot_ne_top, by rw [Finset.range_zero, Finset.sum_empty]⟩

theorem le_fold {n : Nat} (y : Fin n → EReal) (s : Fin n) : y s ≤ Finset.univ.fold max ⊥ y :=
  Finset.le_fold_max (y s) |>.mpr (Or.inr ⟨s, Finset.mem_univ s, le_refl _⟩)

theorem fold_ne_top {n : Nat} (y : Fin n → EReal) (h : ∀ s, y s ≠ ⊤) : Finset.univ.fold max ⊥ y ≠ ⊤ :=
  ne_of_lt (Finset.fold_max_lt ⊤ |>.mpr ⟨bot_lt_top, fun s _ => lt_top_iff_ne_top.mpr (h s)⟩)

theorem mx_ne_top {n : Nat} (m : EReal) (y : Fin n → EReal) (hm : m ≠ ⊤) (h : ∀ s, y s ≠ ⊤) : mx m y ≠ ⊤ := by
  unfold mx
  rcases max_choice m (Finset.univ.fold max ⊥ y) with e | e <;> rw [e]
  · exact hm
  · exact fold_ne_top y h

/-- One tile more. -/
theorem Inv.step {n k : Nat} {y v : Nat → EReal} {m a : EReal} (h : Inv n y v m a) (hy : ∀ s, y s ≠ ⊤) :
    Inv (n + k) y v (mx m fun x : Fin k => y (n + x)) (ac m a (fun x : Fin k => y (n + x)) fun x : Fin k => v (n + x)) := by
  obtain ⟨h1, h2, h3⟩ := h
  have hm' := mx_ne_top m (fun x : Fin k => y (n + x)) h2 fun s => hy _
  have hle : m ≤ mx m fun x : Fin k => y (n + x) := le_max_left _ _
  refine ⟨fun s hs => ?_, hm', ?_⟩
  · by_cases hn : s < n
    · exact (h1 s hn).trans hle
    · have e : s = n + (⟨s - n, by omega⟩ : Fin k).val := by show s = n + (s - n); omega
      rw [e]
      exact (le_fold (fun x : Fin k => y (n + x)) ⟨s - n, by omega⟩).trans (le_max_right _ _)
  · unfold ac
    rw [Finset.sum_range_add, h3, mul_sum_of_nonneg _ (wt_nonneg _ _) (wt_ne_top hle hm'),
      Finset.sum_range fun x => v (n + x) * wt (y (n + x)) _]
    congr 1
    refine Finset.sum_congr rfl fun s hs => ?_
    rw [mul_left_comm, wt_mul (h1 s (Finset.mem_range.mp hs)) hle hm']

/-- Keys with no score add nothing. -/
theorem Inv.widen {n k : Nat} {y v : Nat → EReal} {m a : EReal} (h : Inv n y v m a) (hy : ∀ s, n ≤ s → y s = ⊥) :
    Inv (n + k) y v m a := by
  obtain ⟨h1, h2, h3⟩ := h
  refine ⟨fun s hs => ?_, h2, ?_⟩
  · by_cases hn : s < n
    · exact h1 s hn
    · rw [hy s (by omega)]; exact bot_le
  · rw [Finset.sum_range_add, h3]
    conv_lhs => rw [← add_zero (∑ s ∈ Finset.range n, v s * wt (y s) m)]
    congr 1
    refine (Finset.sum_eq_zero fun s _ => ?_).symm
    rw [hy (n + s) (by omega), wt_bot, mul_zero]

/-! ## Against the softmax taken at once -/

theorem exp_bot_sub (m : EReal) : Ideal.exp (⊥ - m) = 0 := by rw [EReal.bot_sub]; rfl

/-- A weight in base two is a factor times a weight in base `e`. -/
theorem wt_eq (x : EReal) (hx : x ≠ ⊤) (m r : ℝ) :
    wt (((1 / Real.log 2 : ℝ) : EReal) * x) m
      = ((Real.exp (r - m * Real.log 2) : ℝ) : EReal) * Ideal.exp (x - r) := by
  have hl : (0 : ℝ) < Real.log 2 := Real.log_pos (by norm_num)
  induction x with
  | bot => rw [EReal.coe_mul_bot_of_pos (by positivity), wt_bot, exp_bot_sub, mul_zero]
  | top => exact absurd rfl hx
  | coe x =>
    rw [← EReal.coe_mul, wt_coe, ← EReal.coe_sub]
    show _ = _ * ((Real.exp (x - r) : ℝ) : EReal)
    rw [← EReal.coe_mul, ← Real.exp_add]
    refine congrArg _ ?_
    show (2 : ℝ) ^ (1 / Real.log 2 * x - m) = _
    rw [Real.rpow_def_of_pos (by norm_num)]
    congr 1
    field_simp
    ring

/-- The running sums divided at the end are the softmax's weighted sum. -/
theorem softmax_eq {n : Nat} (x : Fin n → EReal) (v : Nat → EReal) (hx : ∀ s, x s ≠ ⊤) (s0 : Fin n) (h0 : x s0 ≠ ⊥)
    (y : Nat → EReal) (hy : ∀ s : Fin n, y s = ((1 / Real.log 2 : ℝ) : EReal) * x s) (m a l : EReal)
    (ha : Inv n y v m a) (hl : Inv n y (fun _ => 1) m l) :
    a * Ideal.div 1 l = ∑ s : Fin n, Ideal.div (Ideal.exp (x s - max ⊥ (Finset.univ.fold max ⊥ x)))
      (0 + ∑ s' : Fin n, Ideal.exp (x s' - max ⊥ (Finset.univ.fold max ⊥ x))) * v s := by
  have hlog : (0 : ℝ) < Real.log 2 := Real.log_pos (by norm_num)
  rw [max_eq_right bot_le, zero_add]
  obtain ⟨r, hr⟩ : ∃ r : ℝ, Finset.univ.fold max ⊥ x = (r : EReal) := by
    refine ⟨(Finset.univ.fold max ⊥ x).toReal, (EReal.coe_toReal (fold_ne_top x hx) ?_).symm⟩
    intro e
    exact h0 (le_bot_iff.mp (e ▸ le_fold x s0))
  obtain ⟨h1, h2, h3⟩ := ha
  obtain ⟨-, -, h6⟩ := hl
  obtain ⟨m, rfl⟩ : ∃ m' : ℝ, m = (m' : EReal) := by
    refine ⟨m.toReal, (EReal.coe_toReal h2 ?_).symm⟩
    rintro rfl
    have := le_bot_iff.mp (h1 s0 s0.isLt)
    rw [hy s0] at this
    induction hxx : x s0 with
    | bot => exact h0 hxx
    | top => exact hx s0 hxx
    | coe q => rw [hxx, ← EReal.coe_mul] at this; exact EReal.coe_ne_bot _ this
  rw [hr]
  set κ : ℝ := Real.exp (r - m * Real.log 2) with hκ
  have hκ0 : 0 < κ := Real.exp_pos _
  have hw : ∀ s : Fin n, wt (y s) m = (κ : EReal) * Ideal.exp (x s - r) := fun s => by rw [hy s, wt_eq (x s) (hx s) m r]
  -- the weights in base `e` are reals
  have he : ∀ s : Fin n, ∃ q : ℝ, 0 ≤ q ∧ Ideal.exp (x s - r) = (q : EReal) := by
    intro s
    induction hxx : x s with
    | bot => exact ⟨0, le_refl _, by rw [exp_bot_sub]; rfl⟩
    | top => exact absurd hxx (hx s)
    | coe q => exact ⟨Real.exp (q - r), (Real.exp_pos _).le, by rw [← EReal.coe_sub]; rfl⟩
  choose e he0 he using he
  have hL : (0 : ℝ) < ∑ s : Fin n, e s := by
    refine Finset.sum_pos' (fun s _ => he0 s) ⟨s0, Finset.mem_univ _, ?_⟩
    induction hxx : x s0 with
    | bot => exact absurd hxx h0
    | top => exact absurd hxx (hx s0)
    | coe q =>
      have h := he s0
      rw [hxx, ← EReal.coe_sub] at h
      have h' : ((Real.exp (q - r) : ℝ) : EReal) = (e s0 : EReal) := h
      rw [← EReal.coe_eq_coe_iff.mp h']
      exact Real.exp_pos _
  have hcs : ∀ f : Fin n → ℝ, ∑ s : Fin n, ((f s : ℝ) : EReal) = ((∑ s : Fin n, f s : ℝ) : EReal) := fun f =>
    (map_sum (⟨⟨fun q : ℝ => (q : EReal), rfl⟩, fun _ _ => rfl⟩ : ℝ →+ EReal) f Finset.univ).symm
  have hl' : l = ((κ * ∑ s : Fin n, e s : ℝ) : EReal) := by
    rw [h6, Finset.sum_range, Finset.mul_sum, ← hcs]
    refine Finset.sum_congr rfl fun s _ => ?_
    rw [one_mul, hw s, he s, ← EReal.coe_mul]
  have ha' : a = (κ : EReal) * ∑ s : Fin n, v s * (e s : EReal) := by
    rw [h3, Finset.sum_range, mul_sum_of_nonneg _ (EReal.coe_nonneg.mpr hκ0.le) (EReal.coe_ne_top _)]
    refine Finset.sum_congr rfl fun s _ => ?_
    rw [hw s, he s, mul_left_comm]
  have hdiv : ∀ (p : EReal) (q : ℝ), 0 < q → Ideal.div p (q : EReal) = p * ((q⁻¹ : ℝ) : EReal) := fun p q hq => by
    unfold Ideal.div
    rw [if_neg (by exact_mod_cast hq.ne'), EReal.coe_inv]
  simp only [he]
  rw [hcs e, ha', hl', hdiv _ _ (mul_pos hκ0 hL), one_mul, mul_comm (κ : EReal), mul_assoc, ← EReal.coe_mul,
    mul_comm, mul_sum_of_nonneg _ (EReal.coe_nonneg.mpr (by positivity)) (EReal.coe_ne_top _)]
  refine Finset.sum_congr rfl fun s _ => ?_
  rw [hdiv _ _ hL, mul_comm (v s), ← mul_assoc, mul_comm (((κ * (κ * ∑ s : Fin n, e s)⁻¹ : ℝ)) : EReal)]
  congr 3
  field_simp

end Cert.FoxMath
-- ==== Proof.FoxStep.lean ====
/-
  One tile of keys for one head of the attention kernel: the running maximum and the running sums, entry by entry.
-/
module

public import proofs.«01_k».proof.Proof.Gen.FoxIdeal.Loops
public import proofs.«01_k».proof.Proof.FoxMath
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Cert.FoxIdeal Cert.FoxIdeal.Gen Cert.FoxMath

namespace Cert.FoxRow

/-- One row of the values under the row of ones: what the running sums weigh. -/
def vrow (V : Vec Ideal S1x64x256 .bf16) (v : Fin 80) (s : Fin 256) : EReal :=
  if h : v.val < 64 then V (ix3 0 ⟨v.val, h⟩ s) else if v.val = 64 then 1 else 0

/-- The score of key `s` of a tile against query `r`. -/
def dotKQ {n : Nat} (K : Vec Ideal S1x256x128 .bf16) (Q : Vec Ideal ⟨3, ![1, n, 128]⟩ .bf16) (r : Fin n) (s : Fin 256) : EReal :=
  ∑ l : Fin 128, K (ix3 0 s l) * Q (ix3 0 r l)

/-- The score under the causal mask of a tile on the diagonal. -/
def dotKQm {n : Nat} (K : Vec Ideal S1x256x128 .bf16) (Q : Vec Ideal ⟨3, ![1, n, 128]⟩ .bf16) (r : Fin n) (s : Fin 256) : EReal :=
  if s.val ≤ r.val then dotKQ K Q r s else ⊥

theorem negInf : (Ideal.ofBits FTy.f32 4286578688#32 : EReal) = ⊥ := by
  simp [Ideal.ofBits, Ideal.ieee]

/-- The row of ones. -/
theorem ones_row (v : Nat) (hv : v < 80) (h : ¬ v < 64) :
    (Scalar.select (IntOp.cmpi CmpIPredicate.eq (BitVec.ofNat 32 (v - 64)) 0#32) (1 : EReal) 0) = if v = 64 then 1 else 0 := by
  by_cases e : v = 64
  · subst e; rw [if_pos rfl]; rfl
  · rw [if_neg e]
    have : BitVec.ofNat 32 (v - 64) ≠ 0#32 := by
      intro hh
      have := congrArg BitVec.toNat hh
      simp at this
      omega
    have h2 : (BitVec.ofNat 32 (v - 64) == 0#32) = false := by simpa using this
    simp only [Scalar.select, IntOp.cmpi, h2]
    rfl

/-- The causal mask's comparison. -/
theorem mask_at {α : Type} (s r : Nat) (hs : s < 512) (hr : r < 512) (a b : α) :
    Scalar.select (IntOp.cmpi CmpIPredicate.sle (BitVec.ofNat 32 s) (BitVec.ofNat 32 r)) a b = if s ≤ r then a else b := by
  have e1 : (BitVec.ofNat 32 s).toInt = s := by
    rw [BitVec.toInt_eq_toNat_of_lt (by simp; omega), BitVec.toNat_ofNat, Nat.mod_eq_of_lt (by omega)]
  have e2 : (BitVec.ofNat 32 r).toInt = r := by
    rw [BitVec.toInt_eq_toNat_of_lt (by simp; omega), BitVec.toNat_ofNat, Nat.mod_eq_of_lt (by omega)]
  by_cases h : s ≤ r
  · simp [Scalar.select, IntOp.cmpi, BitVec.sle, e1, e2, h]
  · simp [Scalar.select, IntOp.cmpi, BitVec.sle, e1, e2, h]

/-! ## A tile left of the diagonal -/

/-- The running maximum of one head after one tile of keys. -/
def mS (K : Vec Ideal S1x256x128 .bf16) (Q : Vec Ideal S1x512x128 .bf16) (M : Vec Ideal S1x1x512 .f32) : Vec Ideal S1x1x512 .f32 :=
  k0_pay106 (k0_pay72 K Q) M

/-- The running sums of one head after one tile of keys. -/
def aS (K : Vec Ideal S1x256x128 .bf16) (Q : Vec Ideal S1x512x128 .bf16) (M : Vec Ideal S1x1x512 .f32)
    (A : Vec Ideal S1x80x512 .f32) (V : Vec Ideal S1x64x256 .bf16) : Vec Ideal S1x80x512 .f32 :=
  k0_pay107 k0_pay234 (k0_pay72 K Q) M A V

/-- The running maximum at one query. -/
theorem mS_apply (K : Vec Ideal S1x256x128 .bf16) (Q : Vec Ideal S1x512x128 .bf16) (M : Vec Ideal S1x1x512 .f32) (r : Fin 512) :
    mS K Q M (ix3 0 0 r) = mx (M (ix3 0 0 r)) (dotKQ K Q r) := by
  pointwise [mS, k0_pay106, k0_pay105, k0_pay104, k0_pay72]
  rw [negInf]; rfl

/-- The running sums at one query. -/
theorem aS_apply (K : Vec Ideal S1x256x128 .bf16) (Q : Vec Ideal S1x512x128 .bf16) (M : Vec Ideal S1x1x512 .f32)
    (A : Vec Ideal S1x80x512 .f32) (V : Vec Ideal S1x64x256 .bf16) (v : Fin 80) (r : Fin 512) :
    aS K Q M A V (ix3 0 v r) = ac (M (ix3 0 0 r)) (A (ix3 0 v r)) (dotKQ K Q r) (vrow V v) := by
  pointwise [aS, k0_pay107, k0_pay106, k0_pay105, k0_pay104, k0_pay72, k0_pay234]
  rw [negInf]
  unfold ac
  congr 1
  refine Finset.sum_congr rfl fun s _ => ?_
  refine congrArg (· * _) ?_
  unfold vrow
  split
  · rfl
  · rename_i h; exact ones_row v.val v.isLt h

/-! ## The tile on the diagonal, all the queries -/

/-- The running maximum after the first tile on the diagonal. -/
def mD0 (K : Vec Ideal S1x256x128 .bf16) (Q : Vec Ideal S1x512x128 .bf16) (M : Vec Ideal S1x1x512 .f32) : Vec Ideal S1x1x512 .f32 :=
  k0_pay253 (k0_pay239 K Q) M

/-- The running sums after the first tile on the diagonal. -/
def aD0 (K : Vec Ideal S1x256x128 .bf16) (Q : Vec Ideal S1x512x128 .bf16) (M : Vec Ideal S1x1x512 .f32)
    (A : Vec Ideal S1x80x512 .f32) (V : Vec Ideal S1x64x256 .bf16) : Vec Ideal S1x80x512 .f32 :=
  k0_pay254 k0_pay234 (k0_pay239 K Q) M A V

theorem mD0_apply (K : Vec Ideal S1x256x128 .bf16) (Q : Vec Ideal S1x512x128 .bf16) (M : Vec Ideal S1x1x512 .f32) (r : Fin 512) :
    mD0 K Q M (ix3 0 0 r) = mx (M (ix3 0 0 r)) (dotKQm K Q r) := by
  pointwise [mD0, k0_pay253, k0_pay252, k0_pay251, k0_pay250, k0_pay249, k0_pay239]
  rw [negInf]
  unfold mx
  congr 2
  funext s
  exact mask_at s.val r.val (by omega) r.isLt _ _

theorem aD0_apply (K : Vec Ideal S1x256x128 .bf16) (Q : Vec Ideal S1x512x128 .bf16) (M : Vec Ideal S1x1x512 .f32)
    (A : Vec Ideal S1x80x512 .f32) (V : Vec Ideal S1x64x256 .bf16) (v : Fin 80) (r : Fin 512) :
    aD0 K Q M A V (ix3 0 v r) = ac (M (ix3 0 0 r)) (A (ix3 0 v r)) (dotKQm K Q r) (vrow V v) := by
  pointwise [aD0, k0_pay254, k0_pay253, k0_pay252, k0_pay251, k0_pay250, k0_pay249, k0_pay239, k0_pay234]
  rw [negInf]
  have hm : ∀ x : Fin 256, Scalar.select (IntOp.cmpi CmpIPredicate.sle (BitVec.ofNat 32 x.val) (BitVec.ofNat 32 r.val))
      (∑ l : Fin 128, K (ix3 0 x l) * Q (ix3 0 r l)) (⊥ : EReal) = dotKQm K Q r x :=
    fun x => mask_at x.val r.val (by omega) (by omega) _ _
  simp only [hm]
  unfold ac
  congr 1
  refine Finset.sum_congr rfl fun s _ => ?_
  refine congrArg (· * _) ?_
  unfold vrow
  split
  · rfl
  · rename_i h; exact ones_row v.val v.isLt h

/-! ## The tile on the diagonal, the later half of the queries -/

/-- The running maximum after the second tile on the diagonal. -/
def mD1 (K : Vec Ideal S1x256x128 .bf16) (Q : Vec Ideal S1x256x128 .bf16) (M : Vec Ideal S1x1x256 .f32) : Vec Ideal S1x1x256 .f32 :=
  k0_pay313 (k0_pay299 K Q) M

/-- The running sums after the second tile on the diagonal. -/
def aD1 (K : Vec Ideal S1x256x128 .bf16) (Q : Vec Ideal S1x256x128 .bf16) (M : Vec Ideal S1x1x256 .f32)
    (A : Vec Ideal S1x80x256 .f32) (V : Vec Ideal S1x64x256 .bf16) : Vec Ideal S1x80x256 .f32 :=
  k0_pay321 k0_pay234 (k0_pay299 K Q) k0_pay309 M A V

theorem mD1_apply (K : Vec Ideal S1x256x128 .bf16) (Q : Vec Ideal S1x256x128 .bf16) (M : Vec Ideal S1x1x256 .f32) (r : Fin 256) :
    mD1 K Q M (ix3 0 0 r) = mx (M (ix3 0 0 r)) (dotKQm K Q r) := by
  pointwise [mD1, k0_pay313, k0_pay312, k0_pay311, k0_pay310, k0_pay309, k0_pay299]
  rw [negInf]
  have hm : ∀ x : Fin 256, Scalar.select (IntOp.cmpi CmpIPredicate.sle (BitVec.ofNat 32 x.val) (BitVec.ofNat 32 r.val))
      (∑ l : Fin 128, K (ix3 0 x l) * Q (ix3 0 r l)) (⊥ : EReal) = dotKQm K Q r x :=
    fun x => mask_at x.val r.val (by omega) (by omega) _ _
  simp only [hm]
  rfl

theorem aD1_apply (K : Vec Ideal S1x256x128 .bf16) (Q : Vec Ideal S1x256x128 .bf16) (M : Vec Ideal S1x1x256 .f32)
    (A : Vec Ideal S1x80x256 .f32) (V : Vec Ideal S1x64x256 .bf16) (v : Fin 80) (r : Fin 256) :
    aD1 K Q M A V (ix3 0 v r) = ac (M (ix3 0 0 r)) (A (ix3 0 v r)) (dotKQm K Q r) (vrow V v) := by
  pointwise [aD1, k0_pay321, k0_pay319, k0_pay318, k0_pay317, k0_pay309, k0_pay299, k0_pay234]
  rw [negInf]
  have hm : ∀ x : Fin 256, Scalar.select (IntOp.cmpi CmpIPredicate.sle (BitVec.ofNat 32 x.val) (BitVec.ofNat 32 r.val))
      (∑ l : Fin 128, K (ix3 0 x l) * Q (ix3 0 r l)) (⊥ : EReal) = dotKQm K Q r x :=
    fun x => mask_at x.val r.val (by omega) (by omega) _ _
  simp only [hm]
  unfold ac
  congr 1
  refine Finset.sum_congr rfl fun s _ => ?_
  refine congrArg (· * _) ?_
  unfold vrow
  split
  · rfl
  · rename_i h; exact ones_row v.val v.isLt h

end Cert.FoxRow
-- ==== Proof.FoxTrip.lean ====
/-
  One trip of the attention kernel's counted loop over the tiles left of the diagonal: two tiles of keys, every head.
-/
module

public import proofs.«01_k».proof.Proof.FoxStep
public import Idealize.ShloMosaic.Lib.Pipeline.ValueKit
public import Idealize.ShloMosaic.Lib.Pipeline.ReadBack
public import Idealize.ShloMosaic.Lib.Tactic

@[expose] public section

set_option maxRecDepth 16384
set_option maxHeartbeats 2000000

noncomputable section

open Idealize.ShloMosaic Idealize.ShloMosaic.TcCoe Idealize.SL.Sem
open Cert.FoxIdeal Cert.FoxIdeal.Gen Cert.FoxMath

namespace Cert.FoxRow

/-- The score of key `s` of the whole row of keys against query `r` of the block, for head `h`. -/
def sc (KA : Vec Ideal S8x2048x128 .bf16) (QA : Vec Ideal S8x512x128 .bf16) (h : Fin 8) (r : Fin 512) (s : ℕ) : EReal :=
  ∑ l : Fin 128, KA (ix3 h ⟨s % 2048, Nat.mod_lt _ (by decide)⟩ l) * QA (ix3 h r l)

/-- What the running sums of head `h`, row `v`, weigh key `s` with: a value, or one in row 64. -/
def vv (VA : Vec Ideal S8x512x256 .bf16) (h : Fin 8) (v : Fin 80) (s : ℕ) : EReal :=
  if hv : v.val < 64 then VA (ix3 ⟨s / 256 % 8, Nat.mod_lt _ (by decide)⟩ ⟨h.val * 64 + v.val, by omega⟩ ⟨s % 256, Nat.mod_lt _ (by decide)⟩)
  else if v.val = 64 then 1 else 0

/-- A tile's scores, read out of the keys of the row and the queries of the block. -/
theorem dot_ld (KA : Vec Ideal S8x2048x128 .bf16) (QA : Vec Ideal S8x512x128 .bf16) (h : Fin 8) (n q0 o : ℕ) (offK offQ : Fin 3 → ℕ)
    (hK : offK = ![h.val, o, 0]) (hQ : offQ = ![h.val, q0, 0]) (ho : o + 256 ≤ 2048) (hq : q0 + n ≤ 512) (inbK) (inbQ) (r : Fin n) (s : Fin 256) :
    dotKQ (View.ld (Val := Elt Ideal) (e' := .bf16) KA (Rect.unit (s := S8x2048x128) offK ![1, 256, 128] inbK))
      (View.ld (Val := Elt Ideal) (e' := .bf16) QA (Rect.unit (s := S8x512x128) offQ ![1, n, 128] inbQ)) r s
      = sc KA QA h ⟨q0 + r.val, by omega⟩ (o + s.val) := by
  subst hK hQ
  unfold dotKQ sc
  refine Finset.sum_congr rfl fun l _ => ?_
  have hs := s.isLt
  congr 1
  · refine View.ld_unit_apply_of (Val := Elt Ideal) (e := .bf16) _ _ _ _ _ _ fun a => ?_
    fin_cases a
    · rfl
    · show (o + s.val) % 2048 = o + s.val
      exact Nat.mod_eq_of_lt (by omega)
    · show l.val = 0 + l.val
      omega
  · refine View.ld_unit_apply_of (Val := Elt Ideal) (e := .bf16) _ _ _ _ _ _ fun a => ?_
    fin_cases a
    · rfl
    · rfl
    · show l.val = 0 + l.val
      omega

/-- A tile's values, read out of the values of the row. -/
theorem vrow_ld (VA : Vec Ideal S8x512x256 .bf16) (h : Fin 8) (o t hr : ℕ) (offV : Fin 3 → ℕ)
    (hV : offV = ![t, hr, 0]) (hh : hr = h.val * 64) (ht : o = 256 * t) (ht8 : t < 8) (inbV) (v : Fin 80) (s : Fin 256) :
    vrow (View.ld (Val := Elt Ideal) (e' := .bf16) VA (Rect.unit (s := S8x512x256) offV ![1, 64, 256] inbV)) v s = vv VA h v (o + s.val) := by
  subst hV hh ht
  have hs := s.isLt
  unfold vrow vv
  split
  · refine View.ld_unit_apply_of (Val := Elt Ideal) (e := .bf16) _ _ _ _ _ _ fun a => ?_
    fin_cases a
    · show (256 * t + s.val) / 256 % 8 = t + 0
      omega
    · rfl
    · show (256 * t + s.val) % 256 = 0 + s.val
      omega
  · rfl

/-- The scores of tile `t`. -/
abbrev scT (KA : Vec Ideal S8x2048x128 .bf16) (QA : Vec Ideal S8x512x128 .bf16) (h : Fin 8) (r : Fin 512) (o : ℕ) : Fin 256 → EReal :=
  fun s => sc KA QA h r (o + s.val)
/-- The values of tile `t`. -/
abbrev vvT (VA : Vec Ideal S8x512x256 .bf16) (h : Fin 8) (v : Fin 80) (o : ℕ) : Fin 256 → EReal := fun s => vv VA h v (o + s.val)

/-- The running maxima after a trip's two tiles. -/
def GM (KA : Vec Ideal S8x2048x128 .bf16) (QA : Vec Ideal S8x512x128 .bf16) (MA : Vec Ideal S8x1x512 .f32) (k : ℕ) : Vec Ideal S8x1x512 .f32 := fun y =>
  mx (mx (MA (ix3 (y 0) 0 (y 2))) (scT KA QA (y 0) (y 2) (512 * k))) (scT KA QA (y 0) (y 2) (512 * k + 256))

/-- The running sums after a trip's two tiles. -/
def GA (KA : Vec Ideal S8x2048x128 .bf16) (QA : Vec Ideal S8x512x128 .bf16) (VA : Vec Ideal S8x512x256 .bf16) (MA : Vec Ideal S8x1x512 .f32)
    (AA : Vec Ideal S8x80x512 .f32) (k : ℕ) : Vec Ideal S8x80x512 .f32 := fun y =>
  ac (mx (MA (ix3 (y 0) 0 (y 2))) (scT KA QA (y 0) (y 2) (512 * k)))
    (ac (MA (ix3 (y 0) 0 (y 2))) (AA (ix3 (y 0) (y 1) (y 2))) (scT KA QA (y 0) (y 2) (512 * k)) (vvT VA (y 0) (y 1) (512 * k)))
    (scT KA QA (y 0) (y 2) (512 * k + 256)) (vvT VA (y 0) (y 1) (512 * k + 256))

section Trip

variable (KA : Vec Ideal S8x2048x128 .bf16) (QA : Vec Ideal S8x512x128 .bf16) (VA : Vec Ideal S8x512x256 .bf16)
  (MA : Vec Ideal S8x1x512 .f32) (AA : Vec Ideal S8x80x512 .f32)

/-- A tile's step of the running maximum of head `h`. -/
theorem stepM (h : Fin 8) (o : ℕ) (offK offQ : Fin 3 → ℕ) (hK : offK = ![h.val, o, 0]) (hQ : offQ = ![h.val, 0, 0])
    (ho : o + 256 ≤ 2048) (inbK) (inbQ) (M : Vec Ideal S1x1x512 .f32) (r : Fin 512) :
    mS (View.ld (Val := Elt Ideal) (e' := .bf16) KA (Rect.unit (s := S8x2048x128) offK ![1, 256, 128] inbK))
      (View.ld (Val := Elt Ideal) (e' := .bf16) QA (Rect.unit (s := S8x512x128) offQ ![1, 512, 128] inbQ)) M (ix3 0 0 r)
      = mx (M (ix3 0 0 r)) (scT KA QA h r o) := by
  rw [mS_apply]
  congr 1
  funext s
  refine (dot_ld KA QA h 512 0 o offK offQ hK hQ ho (by omega) inbK inbQ r s).trans ?_
  simp only [scT, Nat.zero_add]

/-- A tile's step of the running sums of head `h`. -/
theorem stepA (h : Fin 8) (o t hr : ℕ) (offK offQ offV : Fin 3 → ℕ) (hK : offK = ![h.val, o, 0]) (hQ : offQ = ![h.val, 0, 0])
    (hV : offV = ![t, hr, 0]) (hh : hr = h.val * 64) (ht : o = 256 * t) (ht8 : t < 8) (inbK) (inbQ) (inbV)
    (M : Vec Ideal S1x1x512 .f32) (A : Vec Ideal S1x80x512 .f32) (v : Fin 80) (r : Fin 512) :
    aS (View.ld (Val := Elt Ideal) (e' := .bf16) KA (Rect.unit (s := S8x2048x128) offK ![1, 256, 128] inbK))
      (View.ld (Val := Elt Ideal) (e' := .bf16) QA (Rect.unit (s := S8x512x128) offQ ![1, 512, 128] inbQ)) M A
      (View.ld (Val := Elt Ideal) (e' := .bf16) VA (Rect.unit (s := S8x512x256) offV ![1, 64, 256] inbV)) (ix3 0 v r)
      = ac (M (ix3 0 0 r)) (A (ix3 0 v r)) (scT KA QA h r o) (vvT VA h v o) := by
  rw [aS_apply]
  congr 1
  · funext s
    refine (dot_ld KA QA h 512 0 o offK offQ hK hQ (by omega) (by omega) inbK inbQ r s).trans ?_
    simp only [scT, Nat.zero_add]
  · funext s
    exact vrow_ld VA h o t hr offV hV hh ht ht8 inbV v s

/-- One head's running maxima, read out of all of them. -/
theorem ld_m (h : Fin 8) (offM : Fin 3 → ℕ) (hM : offM = ![h.val, 0, 0]) (inbM) (r : Fin 512) :
    View.ld (Val := Elt Ideal) (e' := .f32) MA (Rect.unit (s := S8x1x512) offM ![1, 1, 512] inbM) (ix3 0 0 r) = MA (ix3 h 0 r) := by
  subst hM
  refine View.ld_unit_apply_of (Val := Elt Ideal) (e := .f32) _ _ _ _ _ _ fun a => ?_
  fin_cases a
  · rfl
  · rfl
  · show r.val = 0 + r.val
    omega

/-- One head's running sums, read out of all of them. -/
theorem ld_a (h : Fin 8) (offM : Fin 3 → ℕ) (hM : offM = ![h.val, 0, 0]) (inbM) (v : Fin 80) (r : Fin 512) :
    View.ld (Val := Elt Ideal) (e' := .f32) AA (Rect.unit (s := S8x80x512) offM ![1, 80, 512] inbM) (ix3 0 v r) = AA (ix3 h v r) := by
  subst hM
  refine View.ld_unit_apply_of (Val := Elt Ideal) (e := .f32) _ _ _ _ _ _ fun a => ?_
  fin_cases a
  · rfl
  · show v.val = 0 + v.val
    omega
  · show r.val = 0 + r.val
    omega

/-- Where an entry of one head's box of maxima lies. -/
theorem emb_m (h : Fin 8) (offM : Fin 3 → ℕ) (hM : offM = ![h.val, 0, 0]) (inbM) (r : Fin 512) :
    (Rect.unit (s := S8x1x512) offM ![1, 1, 512] inbM).emb (ix3 0 0 r) = ix3 h 0 r := by
  subst hM
  funext a
  refine Fin.ext ((Rect.idx_unit_val _ _ _ _ a).trans ?_)
  fin_cases a
  · rfl
  · rfl
  · show 0 + r.val = r.val
    omega

/-- Where an entry of one head's box of sums lies. -/
theorem emb_a (h : Fin 8) (offM : Fin 3 → ℕ) (hM : offM = ![h.val, 0, 0]) (inbM) (v : Fin 80) (r : Fin 512) :
    (Rect.unit (s := S8x80x512) offM ![1, 80, 512] inbM).emb (ix3 0 v r) = ix3 h v r := by
  subst hM
  funext a
  refine Fin.ext ((Rect.idx_unit_val _ _ _ _ a).trans ?_)
  fin_cases a
  · rfl
  · show 0 + v.val = v.val
    omega
  · show 0 + r.val = r.val
    omega

/-- The box of head `h`'s maxima after a trip holds `GM`. -/
theorem pieceM (h : Fin 8) (k o0 o1 : ℕ) (h0 : o0 = 512 * k) (h1 : o1 = 512 * k + 256) (hk : k < 4) (offK0 offK1 offQ0 offQ1 offM0 offM : Fin 3 → ℕ)
    (hK0 : offK0 = ![h.val, o0, 0]) (hK1 : offK1 = ![h.val, o1, 0]) (hQ0 : offQ0 = ![h.val, 0, 0]) (hQ1 : offQ1 = ![h.val, 0, 0])
    (hM0 : offM0 = ![h.val, 0, 0]) (hM : offM = ![h.val, 0, 0]) (inbK0) (inbK1) (inbQ0) (inbQ1) (inbM0) (inbM)
    (x : Shape.Idx S1x1x512) :
    mS (View.ld (Val := Elt Ideal) (e' := .bf16) KA (Rect.unit (s := S8x2048x128) offK1 ![1, 256, 128] inbK1))
      (View.ld (Val := Elt Ideal) (e' := .bf16) QA (Rect.unit (s := S8x512x128) offQ1 ![1, 512, 128] inbQ1))
      (mS (View.ld (Val := Elt Ideal) (e' := .bf16) KA (Rect.unit (s := S8x2048x128) offK0 ![1, 256, 128] inbK0))
        (View.ld (Val := Elt Ideal) (e' := .bf16) QA (Rect.unit (s := S8x512x128) offQ0 ![1, 512, 128] inbQ0))
        (View.ld (Val := Elt Ideal) (e' := .f32) MA (Rect.unit (s := S8x1x512) offM0 ![1, 1, 512] inbM0))) x
      = GM KA QA MA k ((Rect.unit (s := S8x1x512) offM ![1, 1, 512] inbM).emb x) := by
  obtain ⟨a, b, r, rfl⟩ : ∃ (a b : Fin 1) (r : Fin 512), x = ix3 a b r := ⟨x 0, x 1, x 2, eq_ix3 x⟩
  obtain rfl : a = 0 := Subsingleton.elim _ _
  obtain rfl : b = 0 := Subsingleton.elim _ _
  rw [stepM KA QA h o1 offK1 offQ1 hK1 hQ1 (by omega), stepM KA QA h o0 offK0 offQ0 hK0 hQ0 (by omega), ld_m MA h offM0 hM0, emb_m h offM hM, h0, h1]
  rfl

/-- The box of head `h`'s sums after a trip holds `GA`. -/
theorem pieceA (h : Fin 8) (k o0 o1 t0 t1 hr0 hr1 : ℕ) (h0 : o0 = 512 * k) (h1 : o1 = 512 * k + 256) (ht0 : t0 = 2 * k) (ht1 : t1 = 2 * k + 1)
    (hk : k < 4) (offK0 offK1 offK2 offQ0 offQ1 offQ2 offV0 offV1 offM0 offM1 offA offS : Fin 3 → ℕ)
    (hK0 : offK0 = ![h.val, o0, 0]) (hK1 : offK1 = ![h.val, o1, 0]) (hK2 : offK2 = ![h.val, o0, 0])
    (hQ0 : offQ0 = ![h.val, 0, 0]) (hQ1 : offQ1 = ![h.val, 0, 0]) (hQ2 : offQ2 = ![h.val, 0, 0])
    (hV0 : offV0 = ![t0, hr0, 0]) (hV1 : offV1 = ![t1, hr1, 0]) (hh0 : hr0 = h.val * 64) (hh1 : hr1 = h.val * 64)
    (hM0 : offM0 = ![h.val, 0, 0]) (hM1 : offM1 = ![h.val, 0, 0]) (hA : offA = ![h.val, 0, 0]) (hS : offS = ![h.val, 0, 0])
    (inbK0) (inbK1) (inbK2) (inbQ0) (inbQ1) (inbQ2) (inbV0) (inbV1) (inbM0) (inbM1) (inbA) (inbS)
    (x : Shape.Idx S1x80x512) :
    aS (View.ld (Val := Elt Ideal) (e' := .bf16) KA (Rect.unit (s := S8x2048x128) offK1 ![1, 256, 128] inbK1))
      (View.ld (Val := Elt Ideal) (e' := .bf16) QA (Rect.unit (s := S8x512x128) offQ1 ![1, 512, 128] inbQ1))
      (mS (View.ld (Val := Elt Ideal) (e' := .bf16) KA (Rect.unit (s := S8x2048x128) offK0 ![1, 256, 128] inbK0))
        (View.ld (Val := Elt Ideal) (e' := .bf16) QA (Rect.unit (s := S8x512x128) offQ0 ![1, 512, 128] inbQ0))
        (View.ld (Val := Elt Ideal) (e' := .f32) MA (Rect.unit (s := S8x1x512) offM0 ![1, 1, 512] inbM0)))
      (aS (View.ld (Val := Elt Ideal) (e' := .bf16) KA (Rect.unit (s := S8x2048x128) offK2 ![1, 256, 128] inbK2))
        (View.ld (Val := Elt Ideal) (e' := .bf16) QA (Rect.unit (s := S8x512x128) offQ2 ![1, 512, 128] inbQ2))
        (View.ld (Val := Elt Ideal) (e' := .f32) MA (Rect.unit (s := S8x1x512) offM1 ![1, 1, 512] inbM1))
        (View.ld (Val := Elt Ideal) (e' := .f32) AA (Rect.unit (s := S8x80x512) offA ![1, 80, 512] inbA))
        (View.ld (Val := Elt Ideal) (e' := .bf16) VA (Rect.unit (s := S8x512x256) offV0 ![1, 64, 256] inbV0)))
      (View.ld (Val := Elt Ideal) (e' := .bf16) VA (Rect.unit (s := S8x512x256) offV1 ![1, 64, 256] inbV1)) x
      = GA KA QA VA MA AA k ((Rect.unit (s := S8x80x512) offS ![1, 80, 512] inbS).emb x) := by
  obtain ⟨a, v, r, rfl⟩ : ∃ (a : Fin 1) (v : Fin 80) (r : Fin 512), x = ix3 a v r := ⟨x 0, x 1, x 2, eq_ix3 x⟩
  obtain rfl : a = 0 := Subsingleton.elim _ _
  rw [stepA KA QA VA h o1 t1 hr1 offK1 offQ1 offV1 hK1 hQ1 hV1 hh1 (by omega) (by omega),
    stepA KA QA VA h o0 t0 hr0 offK2 offQ2 offV0 hK2 hQ2 hV0 hh0 (by omega) (by omega), stepM KA QA h o0 offK0 offQ0 hK0 hQ0 (by omega),
    ld_m MA h offM0 hM0, ld_m MA h offM1 hM1, ld_a AA h offA hA, emb_a h offS hS, h0, h1]
  rfl

end Trip

/-- Where a trip's first tile of keys begins. -/
theorem key0 : ∀ k : Fin 4, BitVec.toNat (Scalar.indexCast (Scalar.muli (Scalar.addi (Scalar.muli (Scf.iv 0#32 1#32 k.val) 2#32) 0#32) 256#32)) = 512 * k.val := by
  decide
/-- Where a trip's second tile of keys begins. -/
theorem key1 : ∀ k : Fin 4, BitVec.toNat (Scalar.indexCast (Scalar.muli (Scalar.addi (Scalar.muli (Scf.iv 0#32 1#32 k.val) 2#32) 1#32) 256#32)) = 512 * k.val + 256 := by
  decide
/-- A trip's first tile of values. -/
theorem val0 : ∀ k : Fin 4, BitVec.toNat (Scalar.indexCast (Scalar.addi (Scalar.muli (Scf.iv 0#32 1#32 k.val) 2#32) 0#32)) = 2 * k.val := by
  decide
/-- A trip's second tile of values. -/
theorem val1 : ∀ k : Fin 4, BitVec.toNat (Scalar.indexCast (Scalar.addi (Scalar.muli (Scf.iv 0#32 1#32 k.val) 2#32) 1#32)) = 2 * k.val + 1 := by
  decide

/-- A trip leaves the running maxima `GM`. -/
theorem tripM_read (𝒱 : Variants) (c : Dev nD) (bd : Option 𝒱.V) (i : grid0.Coords) (arg2 : Memref sig .tc .vmem S512x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S512x512 .bf16) (harg9 : arg9.IsWhole) (arg10 : Memref sig .tc .vmem S8x2048x128 .bf16) (harg10 : arg10.IsWhole) (arg11 : Memref sig .tc .vmem S8x512x128 .bf16) (harg11 : arg11.IsWhole) (arg12 : Memref sig .tc .vmem S8x1x512 .f32) (harg12 : arg12.IsWhole) (arg13 : Memref sig .tc .vmem S8x80x512 .f32) (harg13 : arg13.IsWhole) (arg1 : BitVec 32) (v97 : FVec Ideal S8x80x512 .f32) (X_arg4 : BufTy.Contents (Elt Ideal) arg4.view.ty) (X_arg10 : BufTy.Contents (Elt Ideal) arg10.view.ty) (X_arg11 : BufTy.Contents (Elt Ideal) arg11.view.ty) (k : Fin (k0_t1_loop i).trips) (f_arg12 : BufTy.Contents (Elt Ideal) arg12.view.ty) (f_arg13 : BufTy.Contents (Elt Ideal) arg13.view.ty) (hk : k.val < 4) :
    arg12.view.read (Elt Ideal) (arg12.view.writes (Elt Ideal) f_arg12 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v97 X_arg4 X_arg10 X_arg11 k f_arg12 f_arg13).1)
      = GM (arg10.view.read (Elt Ideal) X_arg10) (arg11.view.read (Elt Ideal) X_arg11) (arg12.view.read (Elt Ideal) f_arg12) k.val := by
  funext y
  unfold tripL_k0_t1 trip_k0_t1
  dsimp only
  sl_unfold_words
  simp (disch := decide) only [↓ View.readCov_skip, ↓ View.readCov_cons_toLoadRect]
  rw [View.read_writes_apply_eq_canon _ _ _ _ (View.cover_of_tiled_head _ _ _ rfl y)]
  refine View.canon_append_of_piecesOf (Val := Elt Ideal) (GM (arg10.view.read (Elt Ideal) X_arg10) (arg11.view.read (Elt Ideal) X_arg11) (arg12.view.read (Elt Ideal) f_arg12) k.val)
    [_, _, _, _, _, _, _, _] [_, _, _, _, _, _, _, _] ⟨fun x => ?_, fun x => ?_, fun x => ?_, fun x => ?_, fun x => ?_, fun x => ?_, fun x => ?_, fun x => ?_, trivial⟩ y
    (View.cover_of_tiled_head _ _ _ rfl y)
  · exact pieceM _ _ _ 7 k.val _ _ (key0 ⟨k.val, hk⟩) (key1 ⟨k.val, hk⟩) hk _ _ _ _ _ _ rfl rfl rfl rfl rfl rfl _ _ _ _ _ inb_S8x1x512_S1x1x512_7_0_0 x
  · exact pieceM _ _ _ 6 k.val _ _ (key0 ⟨k.val, hk⟩) (key1 ⟨k.val, hk⟩) hk _ _ _ _ _ _ rfl rfl rfl rfl rfl rfl _ _ _ _ _ inb_S8x1x512_S1x1x512_6_0_0 x
  · exact pieceM _ _ _ 5 k.val _ _ (key0 ⟨k.val, hk⟩) (key1 ⟨k.val, hk⟩) hk _ _ _ _ _ _ rfl rfl rfl rfl rfl rfl _ _ _ _ _ inb_S8x1x512_S1x1x512_5_0_0 x
  · exact pieceM _ _ _ 4 k.val _ _ (key0 ⟨k.val, hk⟩) (key1 ⟨k.val, hk⟩) hk _ _ _ _ _ _ rfl rfl rfl rfl rfl rfl _ _ _ _ _ inb_S8x1x512_S1x1x512_4_0_0 x
  · exact pieceM _ _ _ 3 k.val _ _ (key0 ⟨k.val, hk⟩) (key1 ⟨k.val, hk⟩) hk _ _ _ _ _ _ rfl rfl rfl rfl rfl rfl _ _ _ _ _ inb_S8x1x512_S1x1x512_3_0_0 x
  · exact pieceM _ _ _ 2 k.val _ _ (key0 ⟨k.val, hk⟩) (key1 ⟨k.val, hk⟩) hk _ _ _ _ _ _ rfl rfl rfl rfl rfl rfl _ _ _ _ _ inb_S8x1x512_S1x1x512_2_0_0 x
  · exact pieceM _ _ _ 1 k.val _ _ (key0 ⟨k.val, hk⟩) (key1 ⟨k.val, hk⟩) hk _ _ _ _ _ _ rfl rfl rfl rfl rfl rfl _ _ _ _ _ inb_S8x1x512_S1x1x512_1_0_0 x
  · exact pieceM _ _ _ 0 k.val _ _ (key0 ⟨k.val, hk⟩) (key1 ⟨k.val, hk⟩) hk _ _ _ _ _ _ rfl rfl rfl rfl rfl rfl _ _ _ _ _ inb_S8x1x512_S1x1x512_0_0_0 x

/-- A trip leaves the running sums `GA`. -/
theorem tripA_read (𝒱 : Variants) (c : Dev nD) (bd : Option 𝒱.V) (i : grid0.Coords) (arg2 : Memref sig .tc .vmem S512x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S512x512 .bf16) (harg9 : arg9.IsWhole) (arg10 : Memref sig .tc .vmem S8x2048x128 .bf16) (harg10 : arg10.IsWhole) (arg11 : Memref sig .tc .vmem S8x512x128 .bf16) (harg11 : arg11.IsWhole) (arg12 : Memref sig .tc .vmem S8x1x512 .f32) (harg12 : arg12.IsWhole) (arg13 : Memref sig .tc .vmem S8x80x512 .f32) (harg13 : arg13.IsWhole) (arg1 : BitVec 32) (v97 : FVec Ideal S8x80x512 .f32) (X_arg4 : BufTy.Contents (Elt Ideal) arg4.view.ty) (X_arg10 : BufTy.Contents (Elt Ideal) arg10.view.ty) (X_arg11 : BufTy.Contents (Elt Ideal) arg11.view.ty) (k : Fin (k0_t1_loop i).trips) (f_arg12 : BufTy.Contents (Elt Ideal) arg12.view.ty) (f_arg13 : BufTy.Contents (Elt Ideal) arg13.view.ty) (hk : k.val < 4) :
    arg13.view.read (Elt Ideal) (arg13.view.writes (Elt Ideal) f_arg13 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v97 X_arg4 X_arg10 X_arg11 k f_arg12 f_arg13).2)
      = GA (arg10.view.read (Elt Ideal) X_arg10) (arg11.view.read (Elt Ideal) X_arg11) (arg4.view.read (Elt Ideal) X_arg4)
          (arg12.view.read (Elt Ideal) f_arg12) (arg13.view.read (Elt Ideal) f_arg13) k.val := by
  funext y
  unfold tripL_k0_t1 trip_k0_t1
  dsimp only
  sl_unfold_words
  simp (disch := decide) only [↓ View.readCov_skip, ↓ View.readCov_cons_toLoadRect]
  rw [View.read_writes_apply_eq_canon _ _ _ _ (View.cover_of_tiled_head _ _ _ rfl y)]
  refine View.canon_append_of_piecesOf (Val := Elt Ideal) (GA (arg10.view.read (Elt Ideal) X_arg10) (arg11.view.read (Elt Ideal) X_arg11) (arg4.view.read (Elt Ideal) X_arg4)
          (arg12.view.read (Elt Ideal) f_arg12) (arg13.view.read (Elt Ideal) f_arg13) k.val)
    [_, _, _, _, _, _, _, _] [_, _, _, _, _, _, _, _] ⟨fun x => ?_, fun x => ?_, fun x => ?_, fun x => ?_, fun x => ?_, fun x => ?_, fun x => ?_, fun x => ?_, trivial⟩ y
    (View.cover_of_tiled_head _ _ _ rfl y)
  · exact pieceA _ _ _ _ _ 7 k.val _ _ _ _ _ _ (key0 ⟨k.val, hk⟩) (key1 ⟨k.val, hk⟩) (val0 ⟨k.val, hk⟩) (val1 ⟨k.val, hk⟩) hk _ _ _ _ _ _ _ _ _ _ _ _ rfl rfl rfl rfl rfl rfl rfl rfl rfl rfl rfl rfl rfl rfl _ _ _ _ _ _ _ _ _ _ _ inb_S8x80x512_S1x80x512_7_0_0 x
  · exact pieceA _ _ _ _ _ 6 k.val _ _ _ _ _ _ (key0 ⟨k.val, hk⟩) (key1 ⟨k.val, hk⟩) (val0 ⟨k.val, hk⟩) (val1 ⟨k.val, hk⟩) hk _ _ _ _ _ _ _ _ _ _ _ _ rfl rfl rfl rfl rfl rfl rfl rfl rfl rfl rfl rfl rfl rfl _ _ _ _ _ _ _ _ _ _ _ inb_S8x80x512_S1x80x512_6_0_0 x
  · exact pieceA _ _ _ _ _ 5 k.val _ _ _ _ _ _ (key0 ⟨k.val, hk⟩) (key1 ⟨k.val, hk⟩) (val0 ⟨k.val, hk⟩) (val1 ⟨k.val, hk⟩) hk _ _ _ _ _ _ _ _ _ _ _ _ rfl rfl rfl rfl rfl rfl rfl rfl rfl rfl rfl rfl rfl rfl _ _ _ _ _ _ _ _ _ _ _ inb_S8x80x512_S1x80x512_5_0_0 x
  · exact pieceA _ _ _ _ _ 4 k.val _ _ _ _ _ _ (key0 ⟨k.val, hk⟩) (key1 ⟨k.val, hk⟩) (val0 ⟨k.val, hk⟩) (val1 ⟨k.val, hk⟩) hk _ _ _ _ _ _ _ _ _ _ _ _ rfl rfl rfl rfl rfl rfl rfl rfl rfl rfl rfl rfl rfl rfl _ _ _ _ _ _ _ _ _ _ _ inb_S8x80x512_S1x80x512_4_0_0 x
  · exact pieceA _ _ _ _ _ 3 k.val _ _ _ _ _ _ (key0 ⟨k.val, hk⟩) (key1 ⟨k.val, hk⟩) (val0 ⟨k.val, hk⟩) (val1 ⟨k.val, hk⟩) hk _ _ _ _ _ _ _ _ _ _ _ _ rfl rfl rfl rfl rfl rfl rfl rfl rfl rfl rfl rfl rfl rfl _ _ _ _ _ _ _ _ _ _ _ inb_S8x80x512_S1x80x512_3_0_0 x
  · exact pieceA _ _ _ _ _ 2 k.val _ _ _ _ _ _ (key0 ⟨k.val, hk⟩) (key1 ⟨k.val, hk⟩) (val0 ⟨k.val, hk⟩) (val1 ⟨k.val, hk⟩) hk _ _ _ _ _ _ _ _ _ _ _ _ rfl rfl rfl rfl rfl rfl rfl rfl rfl rfl rfl rfl rfl rfl _ _ _ _ _ _ _ _ _ _ _ inb_S8x80x512_S1x80x512_2_0_0 x
  · exact pieceA _ _ _ _ _ 1 k.val _ _ _ _ _ _ (key0 ⟨k.val, hk⟩) (key1 ⟨k.val, hk⟩) (val0 ⟨k.val, hk⟩) (val1 ⟨k.val, hk⟩) hk _ _ _ _ _ _ _ _ _ _ _ _ rfl rfl rfl rfl rfl rfl rfl rfl rfl rfl rfl rfl rfl rfl _ _ _ _ _ _ _ _ _ _ _ inb_S8x80x512_S1x80x512_1_0_0 x
  · exact pieceA _ _ _ _ _ 0 k.val _ _ _ _ _ _ (key0 ⟨k.val, hk⟩) (key1 ⟨k.val, hk⟩) (val0 ⟨k.val, hk⟩) (val1 ⟨k.val, hk⟩) hk _ _ _ _ _ _ _ _ _ _ _ _ rfl rfl rfl rfl rfl rfl rfl rfl rfl rfl rfl rfl rfl rfl _ _ _ _ _ _ _ _ _ _ _ inb_S8x80x512_S1x80x512_0_0_0 x

end Cert.FoxRow
-- ==== Proof.FoxLoop.lean ====
/-
  The attention kernel's counted loop: what the running maxima and sums hold after every tile left of the diagonal.
-/
module

public import proofs.«01_k».proof.Proof.FoxTrip
public import Idealize.ShloMosaic.Lib.Pipeline.ValueKit
public import Idealize.ShloMosaic.Lib.Pipeline.ReadBack
public import Idealize.ShloMosaic.Lib.Tactic

@[expose] public section

set_option maxRecDepth 16384
set_option maxHeartbeats 2000000

noncomputable section

open Idealize.ShloMosaic Idealize.ShloMosaic.TcCoe Idealize.SL.Sem
open Cert.FoxIdeal Cert.FoxIdeal.Gen Cert.FoxMath

namespace Cert.FoxRow

/-- The loop over pairs of tiles makes one trip per block of queries before this one. -/
theorem trips1 (i : grid0.Coords) : Scf.trips (k0_t1_loop i).lb (k0_t1_loop i).ub (k0_t1_loop i).st = (i 1).val := by
  unfold k0_t1_loop
  dsimp only
  exact (by decide : ∀ a : Fin 4, Scf.trips 0#32 (Scalar.addi 0#32 (Scalar.muli (Scalar.divsi (Scalar.subi (BitVec.ofNat 32 a.val) 0#32) 1#32) 1#32)) 1#32 = a.val) (i 1)

/-- The loop over a left-over single tile makes no trip. -/
theorem trips2 (i : grid0.Coords) : Scf.trips (k0_t2_loop i).lb (k0_t2_loop i).ub (k0_t2_loop i).st = 0 := by
  unfold k0_t2_loop
  dsimp only
  exact (by decide : ∀ a : Fin 4, Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32 = 0) (i 1)

/-- Before trip `k` the maxima and the sums have taken in the first `512 k` keys. -/
theorem loop_inv (𝒱 : Variants) (c : Dev nD) (bd : Option 𝒱.V) (i : grid0.Coords) (arg2 : Memref sig .tc .vmem S512x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S512x512 .bf16) (harg9 : arg9.IsWhole) (arg10 : Memref sig .tc .vmem S8x2048x128 .bf16) (harg10 : arg10.IsWhole) (arg11 : Memref sig .tc .vmem S8x512x128 .bf16) (harg11 : arg11.IsWhole) (arg12 : Memref sig .tc .vmem S8x1x512 .f32) (harg12 : arg12.IsWhole) (arg13 : Memref sig .tc .vmem S8x80x512 .f32) (harg13 : arg13.IsWhole) (arg1 : BitVec 32) (v97 : FVec Ideal S8x80x512 .f32) (X_arg4 : BufTy.Contents (Elt Ideal) arg4.view.ty) (X_arg10 : BufTy.Contents (Elt Ideal) arg10.view.ty) (X_arg11 : BufTy.Contents (Elt Ideal) arg11.view.ty) (G_arg12 : BufTy.Contents (Elt Ideal) arg12.view.ty) (G_arg13 : BufTy.Contents (Elt Ideal) arg13.view.ty)
    (hG12 : ∀ y, arg12.view.read (Elt Ideal) G_arg12 y = (⊥ : EReal)) (hG13 : ∀ y, arg13.view.read (Elt Ideal) G_arg13 y = (0 : EReal))
    (hs : ∀ h r s, sc (arg10.view.read (Elt Ideal) X_arg10) (arg11.view.read (Elt Ideal) X_arg11) h r s ≠ ⊤)
    (h4 : (k0_t1_loop i).trips ≤ 4) (h : Fin 8) (v : Fin 80) (r : Fin 512) : ∀ k, k ≤ (k0_t1_loop i).trips →
    Inv (512 * k) (sc (arg10.view.read (Elt Ideal) X_arg10) (arg11.view.read (Elt Ideal) X_arg11) h r) (vv (arg4.view.read (Elt Ideal) X_arg4) h v)
      (arg12.view.read (Elt Ideal) (arg12.view.writes (Elt Ideal) G_arg12 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v97 X_arg4 X_arg10 X_arg11 G_arg12 G_arg13 k).1) (ix3 h 0 r))
      (arg13.view.read (Elt Ideal) (arg13.view.writes (Elt Ideal) G_arg13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v97 X_arg4 X_arg10 X_arg11 G_arg12 G_arg13 k).2) (ix3 h v r))
  | 0, _ => by
    have e : pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v97 X_arg4 X_arg10 X_arg11 G_arg12 G_arg13 0 = ([], []) := by rw [pb_k0_t1.eq_1]
    rw [e]
    have e1 : arg12.view.read (Elt Ideal) (arg12.view.writes (Elt Ideal) G_arg12 []) (ix3 h 0 r) = (⊥ : EReal) := hG12 _
    have e2 : arg13.view.read (Elt Ideal) (arg13.view.writes (Elt Ideal) G_arg13 []) (ix3 h v r) = (0 : EReal) := hG13 _
    rw [e1, e2]
    exact inv_zero _ _
  | k + 1, hk => by
    have ih := loop_inv 𝒱 c bd i arg2 harg2 arg3 harg3 arg4 harg4 arg5 harg5 arg6 harg6 arg7 harg7 arg8 harg8 arg9 harg9 arg10 harg10 arg11 harg11 arg12 harg12 arg13 harg13 arg1 v97 X_arg4 X_arg10 X_arg11 G_arg12 G_arg13 hG12 hG13 hs h4 h v r k (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg1 v97 X_arg4 X_arg10 X_arg11 G_arg12 G_arg13 ⟨k, by omega⟩
    rw [show pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v97 X_arg4 X_arg10 X_arg11 G_arg12 G_arg13 (k + 1) = _ from e]
    dsimp only
    rw [View.writes_append, View.writes_append, tripM_read _ _ _ _ _ _ _ _ _ _ _ _ _ _ _ _ _ _ _ _ _ _ _ _ _ _ _ _ _ _ _ _ _ _ _ _ (by show k < 4; omega),
      tripA_read _ _ _ _ _ _ _ _ _ _ _ _ _ _ _ _ _ _ _ _ _ _ _ _ _ _ _ _ _ _ _ _ _ _ _ _ (by show k < 4; omega)]
    have st := (ih.step (k := 256) (hs h r)).step (k := 256) (hs h r)
    rw [show 512 * (k + 1) = 512 * k + 256 + 256 by omega]
    exact st

end Cert.FoxRow
-- ==== Proof.FoxDiag.lean ====
/-
  The tiles on the diagonal of the attention kernel: head after head, first for all the queries of the block, then for the later half.
-/
module

public import proofs.«01_k».proof.Proof.FoxTrip
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Cert.FoxIdeal Cert.FoxIdeal.Gen Cert.FoxMath

namespace Cert.FoxRow

/-- The score of key `s` against query `r` of block `j` under the causal mask. -/
def ym (KA : Vec Ideal S8x2048x128 .bf16) (QA : Vec Ideal S8x512x128 .bf16) (j : ℕ) (h : Fin 8) (r : Fin 512) (s : ℕ) : EReal :=
  if s ≤ 512 * j + r.val then sc KA QA h r s else ⊥

theorem ym_ne_top {KA : Vec Ideal S8x2048x128 .bf16} {QA : Vec Ideal S8x512x128 .bf16} (hy : ∀ h r s, sc KA QA h r s ≠ ⊤)
    (j : ℕ) (h : Fin 8) (r : Fin 512) (s : ℕ) : ym KA QA j h r s ≠ ⊤ := by
  unfold ym
  split
  · exact hy h r s
  · exact bot_ne_top

/-- After `h` heads of a tile on the diagonal: these heads' queries from `q0` on have taken in the tile that begins at key `n`, the
others the keys before it. -/
def Seen (KA : Vec Ideal S8x2048x128 .bf16) (QA : Vec Ideal S8x512x128 .bf16) (VA : Vec Ideal S8x512x256 .bf16) (j n q0 h : ℕ)
    (Lm : List (View.Piece (Elt Ideal) S8x1x512 .f32)) (La : List (View.Piece (Elt Ideal) S8x80x512 .f32)) : Prop :=
  ∀ (g : Fin 8) (v : Fin 80) (r : Fin 512),
    Inv (if g.val < h ∧ q0 ≤ r.val then n + 256 else n) (ym KA QA j g r) (vv VA g v)
      (View.canon (Val := Elt Ideal) Lm (ix3 g 0 r)) (View.canon (Val := Elt Ideal) La (ix3 g v r))

section Step

variable {KA : Vec Ideal S8x2048x128 .bf16} {QA : Vec Ideal S8x512x128 .bf16} {VA : Vec Ideal S8x512x256 .bf16} {j n q0 h nq : ℕ}
  {Lm : List (View.Piece (Elt Ideal) S8x1x512 .f32)} {La : List (View.Piece (Elt Ideal) S8x80x512 .f32)}

/-- One head more, for boxes of `nq` queries that hold one step of the recurrence. -/
theorem Seen.step (p : Seen KA QA VA j n q0 h Lm La) (hh : h < 8) (hq : q0 + nq = 512) (hy : ∀ g r s, sc KA QA g r s ≠ ⊤)
    (offM offA : Fin 3 → ℕ) (hM : offM = ![h, 0, q0]) (hA : offA = ![h, 0, q0]) (inbM) (inbA)
    (pm : Shape.Idx ⟨3, ![1, 1, nq]⟩ → EReal) (pa : Shape.Idx ⟨3, ![1, 80, nq]⟩ → EReal)
    (hpm : ∀ r : Fin nq, pm (ix3 0 0 r) = mx (View.canon (Val := Elt Ideal) Lm (ix3 ⟨h, hh⟩ 0 ⟨q0 + r.val, by omega⟩))
      (fun s : Fin 256 => ym KA QA j ⟨h, hh⟩ ⟨q0 + r.val, by omega⟩ (n + s.val)))
    (hpa : ∀ (v : Fin 80) (r : Fin nq), pa (ix3 0 v r) = ac (View.canon (Val := Elt Ideal) Lm (ix3 ⟨h, hh⟩ 0 ⟨q0 + r.val, by omega⟩))
      (View.canon (Val := Elt Ideal) La (ix3 ⟨h, hh⟩ v ⟨q0 + r.val, by omega⟩))
      (fun s : Fin 256 => ym KA QA j ⟨h, hh⟩ ⟨q0 + r.val, by omega⟩ (n + s.val)) (fun s : Fin 256 => vv VA ⟨h, hh⟩ v (n + s.val))) :
    Seen KA QA VA j n q0 (h + 1) (⟨Rect.unit (s := S8x1x512) offM ![1, 1, nq] inbM, pm⟩ :: Lm)
      (⟨Rect.unit (s := S8x80x512) offA ![1, 80, nq] inbA, pa⟩ :: La) := by
  subst hM hA
  have hb : ∀ r' : Fin nq, q0 + r'.val < 512 := fun r' => by omega
  intro g v r
  by_cases c : g.val = h ∧ q0 ≤ r.val
  · obtain ⟨rfl, c2⟩ := c
    obtain ⟨r', rfl⟩ : ∃ r' : Fin nq, r = ⟨q0 + r'.val, hb r'⟩ := ⟨⟨r.val - q0, by omega⟩, Fin.ext (by simp; omega)⟩
    have em : (ix3 g 0 ⟨q0 + r'.val, by omega⟩ : Shape.Idx S8x1x512) = (Rect.unit (s := S8x1x512) ![g.val, 0, q0] ![1, 1, nq] inbM).emb (ix3 0 0 r') := by
      funext a
      refine Fin.ext (Eq.trans ?_ (Rect.idx_unit_val _ _ _ _ a).symm)
      fin_cases a <;> rfl
    have ea : (ix3 g v ⟨q0 + r'.val, by omega⟩ : Shape.Idx S8x80x512) = (Rect.unit (s := S8x80x512) ![g.val, 0, q0] ![1, 80, nq] inbA).emb (ix3 0 v r') := by
      funext a
      refine Fin.ext (Eq.trans ?_ (Rect.idx_unit_val _ _ _ _ a).symm)
      fin_cases a
      · rfl
      · show v.val = 0 + v.val
        omega
      · rfl
    have ih := p g v ⟨q0 + r'.val, by omega⟩
    rw [if_neg (by omega)] at ih
    rw [if_pos ⟨by omega, c2⟩]
    have e1 : View.canon (Val := Elt Ideal) (⟨Rect.unit (s := S8x1x512) ![g.val, 0, q0] ![1, 1, nq] inbM, pm⟩ :: Lm) (ix3 g 0 ⟨q0 + r'.val, by omega⟩) = pm (ix3 0 0 r') := by
      rw [em]; exact View.canon_cons_emb _ _ _ _
    have e2 : View.canon (Val := Elt Ideal) (⟨Rect.unit (s := S8x80x512) ![g.val, 0, q0] ![1, 80, nq] inbA, pa⟩ :: La) (ix3 g v ⟨q0 + r'.val, by omega⟩) = pa (ix3 0 v r') := by
      rw [ea]; exact View.canon_cons_emb _ _ _ _
    rw [e1, e2, hpm, hpa]
    exact ih.step (k := 256) (ym_ne_top hy j g _)
  · have ih := p g v r
    have e : (g.val < h + 1 ∧ q0 ≤ r.val) ↔ (g.val < h ∧ q0 ≤ r.val) := by omega
    rw [View.canon_cons_of_not_mem, View.canon_cons_of_not_mem]
    · simp only [e]
      exact ih
    · rw [Rect.mem_set_unit]
      intro hm
      have h0 := hm 0
      have h2 := hm 2
      exact c ⟨by have : h ≤ g.val ∧ g.val < h + 1 := h0
                  omega, h2.1⟩
    · rw [Rect.mem_set_unit]
      intro hm
      have h0 := hm 0
      have h2 := hm 2
      exact c ⟨by have : h ≤ g.val ∧ g.val < h + 1 := h0
                  omega, h2.1⟩

variable (KA QA VA) in
/-- The masked scores of a tile on the diagonal. -/
theorem diag_scores (hn : n = 512 * j + q0) (hj : j < 4) (hh : h < 8) (hq : q0 + nq = 512) (hq2 : q0 ≤ 256)
    (K : Vec Ideal S1x256x128 .bf16) (Q : Vec Ideal ⟨3, ![1, nq, 128]⟩ .bf16) (offK offQ : Fin 3 → ℕ)
    (oK : offK = ![h, n, 0]) (oQ : offQ = ![h, q0, 0]) (inbK) (inbQ)
    (hK : K = View.ld (Val := Elt Ideal) (e' := .bf16) KA (Rect.unit (s := S8x2048x128) offK ![1, 256, 128] inbK))
    (hQ : Q = View.ld (Val := Elt Ideal) (e' := .bf16) QA (Rect.unit (s := S8x512x128) offQ ![1, nq, 128] inbQ)) (r : Fin nq) :
    dotKQm K Q r = fun s : Fin 256 => ym KA QA j ⟨h, hh⟩ ⟨q0 + r.val, by omega⟩ (n + s.val) := by
  funext s
  unfold dotKQm ym
  have e : s.val ≤ r.val ↔ n + s.val ≤ 512 * j + (q0 + r.val) := by omega
  simp only [e]
  split
  · rw [hK, hQ]
    exact dot_ld KA QA ⟨h, hh⟩ nq q0 n offK offQ oK oQ (by omega) (by omega) inbK inbQ r s
  · rfl

/-- Where a box of maxima is read. -/
theorem readM {κ : Kind} {sp : Space} (v12 : View sig κ sp S8x1x512 .f32) (hh : h < 8) (hq : q0 + nq = 512) (offM : Fin 3 → ℕ) (hM : offM = ![h, 0, q0]) (inbM) (r : Fin nq) :
    v12.readCov (Val := Elt Ideal) Lm (Rect.unit (s := S8x1x512) offM ![1, 1, nq] inbM).toLoadRect (ix3 0 0 r)
      = View.canon (Val := Elt Ideal) Lm (ix3 ⟨h, hh⟩ 0 ⟨q0 + r.val, by omega⟩) := by
  subst hM
  rw [View.readCov_eq_canon']
  refine congrArg _ ?_
  funext a
  refine Fin.ext ((Rect.idx_unit_val _ _ _ _ a).trans ?_)
  fin_cases a <;> rfl

/-- Where a box of sums is read. -/
theorem readA {κ : Kind} {sp : Space} (v13 : View sig κ sp S8x80x512 .f32) (hh : h < 8) (hq : q0 + nq = 512) (offA : Fin 3 → ℕ) (hA : offA = ![h, 0, q0]) (inbA) (v : Fin 80) (r : Fin nq) :
    v13.readCov (Val := Elt Ideal) La (Rect.unit (s := S8x80x512) offA ![1, 80, nq] inbA).toLoadRect (ix3 0 v r)
      = View.canon (Val := Elt Ideal) La (ix3 ⟨h, hh⟩ v ⟨q0 + r.val, by omega⟩) := by
  subst hA
  rw [View.readCov_eq_canon']
  refine congrArg _ ?_
  funext a
  refine Fin.ext ((Rect.idx_unit_val _ _ _ _ a).trans ?_)
  fin_cases a
  · rfl
  · show 0 + v.val = v.val
    omega
  · rfl

/-- One head more of the first tile on the diagonal. -/
theorem Seen.stepD0 {κ κ' : Kind} {sp sp' : Space} (v12 : View sig κ sp S8x1x512 .f32) (v13 : View sig κ' sp' S8x80x512 .f32)
    (p : Seen KA QA VA j n 0 h Lm La) (hn : n = 512 * j) (hj : j < 4) (hh : h < 8) (hy : ∀ g r s, sc KA QA g r s ≠ ⊤)
    (K : Vec Ideal S1x256x128 .bf16) (Q : Vec Ideal S1x512x128 .bf16) (V : Vec Ideal S1x64x256 .bf16) (t hr : ℕ) (offK offQ offV : Fin 3 → ℕ)
    (oK : offK = ![h, n, 0]) (oQ : offQ = ![h, 0, 0]) (oV : offV = ![t, hr, 0]) (ht : n = 256 * t) (hhr : hr = h * 64) (inbK) (inbQ) (inbV)
    (hK : K = View.ld (Val := Elt Ideal) (e' := .bf16) KA (Rect.unit (s := S8x2048x128) offK ![1, 256, 128] inbK))
    (hQ : Q = View.ld (Val := Elt Ideal) (e' := .bf16) QA (Rect.unit (s := S8x512x128) offQ ![1, 512, 128] inbQ))
    (hV : V = View.ld (Val := Elt Ideal) (e' := .bf16) VA (Rect.unit (s := S8x512x256) offV ![1, 64, 256] inbV))
    (offM offA offM1 offM2 offA1 : Fin 3 → ℕ) (oM : offM = ![h, 0, 0]) (oA : offA = ![h, 0, 0]) (oM1 : offM1 = ![h, 0, 0]) (oM2 : offM2 = ![h, 0, 0])
    (oA1 : offA1 = ![h, 0, 0]) (inbM) (inbA) (inbM1) (inbM2) (inbA1) :
    Seen KA QA VA j n 0 (h + 1)
      (⟨Rect.unit (s := S8x1x512) offM ![1, 1, 512] inbM, mD0 K Q (v12.readCov (Val := Elt Ideal) Lm (Rect.unit (s := S8x1x512) offM1 ![1, 1, 512] inbM1).toLoadRect)⟩ :: Lm)
      (⟨Rect.unit (s := S8x80x512) offA ![1, 80, 512] inbA, aD0 K Q (v12.readCov (Val := Elt Ideal) Lm (Rect.unit (s := S8x1x512) offM2 ![1, 1, 512] inbM2).toLoadRect)
        (v13.readCov (Val := Elt Ideal) La (Rect.unit (s := S8x80x512) offA1 ![1, 80, 512] inbA1).toLoadRect) V⟩ :: La) := by
  have hsc := diag_scores (nq := 512) (q0 := 0) (h := h) KA QA (hn.trans (Nat.add_zero _).symm) hj hh (by omega) (by omega) K Q offK offQ oK oQ inbK inbQ hK hQ
  refine p.step (nq := 512) hh (by omega) hy offM offA oM oA inbM inbA _ _ (fun r => ?_) (fun v r => ?_)
  · rw [mD0_apply, readM (nq := 512) v12 hh (by omega) offM1 oM1, hsc]
  · rw [aD0_apply, readM (nq := 512) v12 hh (by omega) offM2 oM2, readA (nq := 512) v13 hh (by omega) offA1 oA1, hsc]
    congr 1
    funext s
    rw [hV]
    exact vrow_ld VA ⟨h, hh⟩ n t hr offV oV hhr ht (by omega) inbV v s

/-- One head more of the second tile on the diagonal. -/
theorem Seen.stepD1 {κ κ' : Kind} {sp sp' : Space} (v12 : View sig κ sp S8x1x512 .f32) (v13 : View sig κ' sp' S8x80x512 .f32)
    (p : Seen KA QA VA j n 256 h Lm La) (hn : n = 512 * j + 256) (hj : j < 4) (hh : h < 8) (hy : ∀ g r s, sc KA QA g r s ≠ ⊤)
    (K : Vec Ideal S1x256x128 .bf16) (Q : Vec Ideal S1x256x128 .bf16) (V : Vec Ideal S1x64x256 .bf16) (t hr : ℕ) (offK offQ offV : Fin 3 → ℕ)
    (oK : offK = ![h, n, 0]) (oQ : offQ = ![h, 256, 0]) (oV : offV = ![t, hr, 0]) (ht : n = 256 * t) (hhr : hr = h * 64) (inbK) (inbQ) (inbV)
    (hK : K = View.ld (Val := Elt Ideal) (e' := .bf16) KA (Rect.unit (s := S8x2048x128) offK ![1, 256, 128] inbK))
    (hQ : Q = View.ld (Val := Elt Ideal) (e' := .bf16) QA (Rect.unit (s := S8x512x128) offQ ![1, 256, 128] inbQ))
    (hV : V = View.ld (Val := Elt Ideal) (e' := .bf16) VA (Rect.unit (s := S8x512x256) offV ![1, 64, 256] inbV))
    (offM offA offM1 offM2 offA1 : Fin 3 → ℕ) (oM : offM = ![h, 0, 256]) (oA : offA = ![h, 0, 256]) (oM1 : offM1 = ![h, 0, 256]) (oM2 : offM2 = ![h, 0, 256])
    (oA1 : offA1 = ![h, 0, 256]) (inbM) (inbA) (inbM1) (inbM2) (inbA1) :
    Seen KA QA VA j n 256 (h + 1)
      (⟨Rect.unit (s := S8x1x512) offM ![1, 1, 256] inbM, mD1 K Q (v12.readCov (Val := Elt Ideal) Lm (Rect.unit (s := S8x1x512) offM1 ![1, 1, 256] inbM1).toLoadRect)⟩ :: Lm)
      (⟨Rect.unit (s := S8x80x512) offA ![1, 80, 256] inbA, aD1 K Q (v12.readCov (Val := Elt Ideal) Lm (Rect.unit (s := S8x1x512) offM2 ![1, 1, 256] inbM2).toLoadRect)
        (v13.readCov (Val := Elt Ideal) La (Rect.unit (s := S8x80x512) offA1 ![1, 80, 256] inbA1).toLoadRect) V⟩ :: La) := by
  have hsc := diag_scores (nq := 256) (q0 := 256) (h := h) KA QA hn hj hh (by omega) (by omega) K Q offK offQ oK oQ inbK inbQ hK hQ
  refine p.step (nq := 256) hh (by omega) hy offM offA oM oA inbM inbA _ _ (fun r => ?_) (fun v r => ?_)
  · rw [mD1_apply, readM (nq := 256) v12 hh (by omega) offM1 oM1, hsc]
  · rw [aD1_apply, readM (nq := 256) v12 hh (by omega) offM2 oM2, readA (nq := 256) v13 hh (by omega) offA1 oA1, hsc]
    congr 1
    funext s
    rw [hV]
    exact vrow_ld VA ⟨h, hh⟩ n t hr offV oV hhr ht (by omega) inbV v s

/-- After the first tile the second begins. -/
theorem Seen.next (p : Seen KA QA VA j n 0 8 Lm La) : Seen KA QA VA j (n + 256) 256 0 Lm La := by
  intro g v r
  have ih := p g v r
  rw [if_pos ⟨g.isLt, Nat.zero_le _⟩] at ih
  rw [if_neg (by omega)]
  exact ih

/-- After both tiles every key has been taken in: those to the right of the diagonal weigh nothing. -/
theorem Seen.all (hj : j < 4) (p : Seen KA QA VA j (512 * j + 256) 256 8 Lm La) (g : Fin 8) (v : Fin 80) (r : Fin 512) :
    Inv 2048 (ym KA QA j g r) (vv VA g v) (View.canon (Val := Elt Ideal) Lm (ix3 g 0 r)) (View.canon (Val := Elt Ideal) La (ix3 g v r)) := by
  have ih := p g v r
  have hr := r.isLt
  have key : ∀ n k : ℕ, Inv n (ym KA QA j g r) (vv VA g v) (View.canon (Val := Elt Ideal) Lm (ix3 g 0 r)) (View.canon (Val := Elt Ideal) La (ix3 g v r)) →
      512 * j + r.val < n → n + k = 2048 →
      Inv 2048 (ym KA QA j g r) (vv VA g v) (View.canon (Val := Elt Ideal) Lm (ix3 g 0 r)) (View.canon (Val := Elt Ideal) La (ix3 g v r)) := by
    intro n k hi hn hk
    have := hi.widen (k := k) (fun s hs => if_neg (by omega))
    rwa [hk] at this
  split at ih
  · exact key _ (2048 - (512 * j + 256 + 256)) ih (by omega) (by omega)
  · rename_i hc
    have hg := g.isLt
    exact key _ (2048 - (512 * j + 256)) ih (by omega) (by omega)

end Step

end Cert.FoxRow
-- ==== Proof.FoxPoint.lean ====
/-
  One grid point of the attention kernel: the scratch after the loops and the tiles on the diagonal.
-/
module

public import proofs.«01_k».proof.Proof.FoxLoop
public import proofs.«01_k».proof.Proof.FoxDiag
public import proofs.«01_k».proof.Proof.Gen.FoxIdeal.Frame
public import Idealize.ShloMosaic.Lib.Pipeline.ValueKit
public import Idealize.ShloMosaic.Lib.Pipeline.ReadBack
public import Idealize.ShloMosaic.Lib.Tactic

@[expose] public section

set_option maxRecDepth 16384
set_option maxHeartbeats 2000000

noncomputable section

open Idealize.ShloMosaic Idealize.ShloMosaic.TcCoe Idealize.SL.Sem
open Cert.FoxIdeal Cert.FoxIdeal.Gen Cert.FoxMath

namespace Cert.FoxRow

/-- Before the tiles on the diagonal every head's queries have taken in the keys of the earlier blocks. -/
theorem seen_base (𝒱 : Variants) (c : Dev nD) (bd : Option 𝒱.V) (i : grid0.Coords) (arg2 : Memref sig .tc .vmem S512x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S512x512 .bf16) (harg9 : arg9.IsWhole) (arg10 : Memref sig .tc .vmem S8x2048x128 .bf16) (harg10 : arg10.IsWhole) (arg11 : Memref sig .tc .vmem S8x512x128 .bf16) (harg11 : arg11.IsWhole) (arg12 : Memref sig .tc .vmem S8x1x512 .f32) (harg12 : arg12.IsWhole) (arg13 : Memref sig .tc .vmem S8x80x512 .f32) (harg13 : arg13.IsWhole) (arg1 : BitVec 32) (v97 : FVec Ideal S8x80x512 .f32) (v112 : BitVec 32) (X_arg4 : BufTy.Contents (Elt Ideal) arg4.view.ty) (X_arg10 : BufTy.Contents (Elt Ideal) arg10.view.ty) (X_arg11 : BufTy.Contents (Elt Ideal) arg11.view.ty) (G2m : BufTy.Contents (Elt Ideal) arg12.view.ty) (G2a : BufTy.Contents (Elt Ideal) arg13.view.ty)
    (Lm1 : List (View.Piece (Elt Ideal) S8x1x512 .f32)) (La1 : List (View.Piece (Elt Ideal) S8x80x512 .f32))
    (hm : ∀ y, View.canon (Val := Elt Ideal) Lm1 y = (⊥ : EReal)) (ha : ∀ y, View.canon (Val := Elt Ideal) La1 y = (0 : EReal))
    (hs : ∀ h r s, sc (arg10.view.read (Elt Ideal) X_arg10) (arg11.view.read (Elt Ideal) X_arg11) h r s ≠ ⊤) :
    Seen (arg10.view.read (Elt Ideal) X_arg10) (arg11.view.read (Elt Ideal) X_arg11) (arg4.view.read (Elt Ideal) X_arg4) (i 1).val (512 * (i 1).val) 0 0
      ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg1 v97 v112 X_arg4 X_arg10 X_arg11 G2m G2a (Scf.trips (k0_t2_loop i).lb (k0_t2_loop i).ub (k0_t2_loop i).st)).1 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v97 X_arg4 X_arg10 X_arg11 (arg12.view.writes (Elt Ideal) arg12.view.junk Lm1) (arg13.view.writes (Elt Ideal) arg13.view.junk La1) (Scf.trips (k0_t1_loop i).lb (k0_t1_loop i).ub (k0_t1_loop i).st)).1 ++ Lm1))
      ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg1 v97 v112 X_arg4 X_arg10 X_arg11 G2m G2a (Scf.trips (k0_t2_loop i).lb (k0_t2_loop i).ub (k0_t2_loop i).st)).2 ++ ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg1 v97 X_arg4 X_arg10 X_arg11 (arg12.view.writes (Elt Ideal) arg12.view.junk Lm1) (arg13.view.writes (Elt Ideal) arg13.view.junk La1) (Scf.trips (k0_t1_loop i).lb (k0_t1_loop i).ub (k0_t1_loop i).st)).2 ++ La1)) := by
  have e2 : (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg1 v97 v112 X_arg4 X_arg10 X_arg11 G2m G2a (Scf.trips (k0_t2_loop i).lb (k0_t2_loop i).ub (k0_t2_loop i).st)) = ([], []) := by
    rw [trips2, pb_k0_t2.eq_1]
  rw [e2]
  have ht : (Scf.trips (k0_t1_loop i).lb (k0_t1_loop i).ub (k0_t1_loop i).st) = (i 1).val := trips1 i
  have h4 : (i 1).val < 4 := (i 1).isLt
  intro g v r
  rw [if_neg (by omega)]
  have hl := loop_inv 𝒱 c bd i arg2 harg2 arg3 harg3 arg4 harg4 arg5 harg5 arg6 harg6 arg7 harg7 arg8 harg8 arg9 harg9 arg10 harg10 arg11 harg11 arg12 harg12 arg13 harg13 arg1 v97 X_arg4 X_arg10 X_arg11 (arg12.view.writes (Elt Ideal) arg12.view.junk Lm1) (arg13.view.writes (Elt Ideal) arg13.view.junk La1)
    (fun y => by rw [View.read_writes_junk_eq_canon]; exact hm y) (fun y => by rw [View.read_writes_junk_eq_canon]; exact ha y) hs
    (by show (Scf.trips (k0_t1_loop i).lb (k0_t1_loop i).ub (k0_t1_loop i).st) ≤ 4; omega) g v r (Scf.trips (k0_t1_loop i).lb (k0_t1_loop i).ub (k0_t1_loop i).st) le_rfl
  rw [← View.writes_append, ← View.writes_append, View.read_writes_junk_eq_canon, View.read_writes_junk_eq_canon] at hl
  have e512 : 512 * (Scf.trips (k0_t1_loop i).lb (k0_t1_loop i).ub (k0_t1_loop i).st) = 512 * (i 1).val := by rw [ht]
  have hl2 := Inv.cast_left e512 hl
  refine hl2.congr fun s hs => ?_
  unfold ym
  rw [if_pos (by omega)]

/-- The running maxima begin at minus infinity. -/
theorem fill_m (y : Shape.Idx S8x1x512) : View.canon (Val := Elt Ideal) (kernelRun0_B.sl.HS2_1 (F := Ideal)) y = (⊥ : EReal) := by
  unfold kernelRun0_B.sl.HS2_1
  rw [View.canon_unit_zero (by funext a; fin_cases a <;> rfl)]
  idx_vars y
  pointwise [k0_pay231]
  exact negInf

/-- The running sums begin at zero. -/
theorem fill_a (y : Shape.Idx S8x80x512) : View.canon (Val := Elt Ideal) (kernelRun0_B.sl.HS3_1 (F := Ideal)) y = (0 : EReal) := by
  unfold kernelRun0_B.sl.HS3_1
  rw [View.canon_unit_zero (by funext a; fin_cases a <;> rfl)]
  idx_vars y
  pointwise [k0_pay233, k0_pay232]

/-- After both tiles on the diagonal (later point of a row). -/
theorem seen_B (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S512x512 .bf16) (harg9 : arg9.IsWhole) (arg10 : Memref sig .tc .vmem S8x2048x128 .bf16) (harg10 : arg10.IsWhole) (arg11 : Memref sig .tc .vmem S8x512x128 .bf16) (harg11 : arg11.IsWhole) (arg12 : Memref sig .tc .vmem S8x1x512 .f32) (harg12 : arg12.IsWhole) (arg13 : Memref sig .tc .vmem S8x80x512 .f32) (harg13 : arg13.IsWhole) (hc0 : ¬cond0_0 i)     (x0 : Vec Ideal S512x512 .bf16) (x1 : Vec Ideal S2048x512 .bf16) (x2 : Vec Ideal S8x512x256 .bf16) (x3 : Vec Ideal S512x128 .bf16) (x4 : Vec Ideal S2048x128 .bf16) (x5 : Vec Ideal S4x128x256 .bf16) (x6 : Vec Ideal S4x128x256 .bf16) (xs0 : Vec Ideal S8x2048x128 .bf16)
    (hs : ∀ h r s, sc (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) h r s ≠ ⊤) :
    ∃ Lm, Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val + 256) 256 8 Lm (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) := by
  have hj : (i 1).val < 4 := (i 1).isLt
  have p0 := fun G2m G2a => seen_base Variants.none c none i arg2 harg2 arg3 harg3 arg4 harg4 arg5 harg5 arg6 harg6 arg7 harg7 arg8 harg8 arg9 harg9 arg10 harg10 arg11 harg11 arg12 harg12 arg13 harg13 (BitVec.ofNat 32 (i 1).val) k0_pay232 (kernelRun0_B.sl.v112 i) (harg4.unread x2) (harg10.unread xs0) (arg11.view.writes (Elt Ideal) arg11.view.junk (kernelRun0_B.sl.HS1_8 (F := Ideal) c arg2 harg2 arg5 harg5 arg7 harg7 x0 x3 x5))
    G2m G2a (kernelRun0_B.sl.HS2_1 (F := Ideal)) (kernelRun0_B.sl.HS3_1 (F := Ideal)) fill_m fill_a hs
  have p1 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val) 0 1 (kernelRun0_B.sl.HS2_1_1 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_1_1 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    (p0 _ _).stepD0 arg12.view arg13.view rfl hj (by decide) hs _ _ _ (2 * (i 1).val) 0 _ _ _ (k0_off33_eq i 0) rfl (k0_off41_eq i 0) (by omega) rfl _ _ _ rfl rfl rfl _ _ _ _ _ rfl rfl rfl rfl rfl _ _ _ _ _
  have p2 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val) 0 2 (kernelRun0_B.sl.HS2_2 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_2 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    p1.stepD0 arg12.view arg13.view rfl hj (by decide) hs _ _ _ (2 * (i 1).val) 64 _ _ _ (k0_off34_eq i 0) rfl (k0_off42_eq i 0) (by omega) rfl _ _ _ rfl rfl rfl _ _ _ _ _ rfl rfl rfl rfl rfl _ _ _ _ _
  have p3 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val) 0 3 (kernelRun0_B.sl.HS2_3 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_3 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    p2.stepD0 arg12.view arg13.view rfl hj (by decide) hs _ _ _ (2 * (i 1).val) 128 _ _ _ (k0_off35_eq i 0) rfl (k0_off43_eq i 0) (by omega) rfl _ _ _ rfl rfl rfl _ _ _ _ _ rfl rfl rfl rfl rfl _ _ _ _ _
  have p4 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val) 0 4 (kernelRun0_B.sl.HS2_4 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_4 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    p3.stepD0 arg12.view arg13.view rfl hj (by decide) hs _ _ _ (2 * (i 1).val) 192 _ _ _ (k0_off36_eq i 0) rfl (k0_off44_eq i 0) (by omega) rfl _ _ _ rfl rfl rfl _ _ _ _ _ rfl rfl rfl rfl rfl _ _ _ _ _
  have p5 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val) 0 5 (kernelRun0_B.sl.HS2_5 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_5 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    p4.stepD0 arg12.view arg13.view rfl hj (by decide) hs _ _ _ (2 * (i 1).val) 256 _ _ _ (k0_off37_eq i 0) rfl (k0_off45_eq i 0) (by omega) rfl _ _ _ rfl rfl rfl _ _ _ _ _ rfl rfl rfl rfl rfl _ _ _ _ _
  have p6 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val) 0 6 (kernelRun0_B.sl.HS2_6 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_6 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    p5.stepD0 arg12.view arg13.view rfl hj (by decide) hs _ _ _ (2 * (i 1).val) 320 _ _ _ (k0_off38_eq i 0) rfl (k0_off46_eq i 0) (by omega) rfl _ _ _ rfl rfl rfl _ _ _ _ _ rfl rfl rfl rfl rfl _ _ _ _ _
  have p7 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val) 0 7 (kernelRun0_B.sl.HS2_7 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_7 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    p6.stepD0 arg12.view arg13.view rfl hj (by decide) hs _ _ _ (2 * (i 1).val) 384 _ _ _ (k0_off39_eq i 0) rfl (k0_off47_eq i 0) (by omega) rfl _ _ _ rfl rfl rfl _ _ _ _ _ rfl rfl rfl rfl rfl _ _ _ _ _
  have p8 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val) 0 8 (kernelRun0_B.sl.HS2_8 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_8 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    p7.stepD0 arg12.view arg13.view rfl hj (by decide) hs _ _ _ (2 * (i 1).val) 448 _ _ _ (k0_off40_eq i 0) rfl (k0_off48_eq i 0) (by omega) rfl _ _ _ rfl rfl rfl _ _ _ _ _ rfl rfl rfl rfl rfl _ _ _ _ _
  have q0 := p8.next
  have q1 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val + 256) 256 1 (kernelRun0_B.sl.HS2_9 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_9 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    q0.stepD1 arg12.view arg13.view rfl hj (by decide) hs _ _ _ (2 * (i 1).val + 1) 0 _ _ _ (k0_off33_eq i 1) rfl (k0_off41_eq i 1) (by omega) rfl _ _ _ rfl rfl rfl _ _ _ _ _ rfl rfl rfl rfl rfl _ _ _ _ _
  have q2 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val + 256) 256 2 (kernelRun0_B.sl.HS2_10 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_10 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    q1.stepD1 arg12.view arg13.view rfl hj (by decide) hs _ _ _ (2 * (i 1).val + 1) 64 _ _ _ (k0_off34_eq i 1) rfl (k0_off42_eq i 1) (by omega) rfl _ _ _ rfl rfl rfl _ _ _ _ _ rfl rfl rfl rfl rfl _ _ _ _ _
  have q3 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val + 256) 256 3 (kernelRun0_B.sl.HS2_11 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_11 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    q2.stepD1 arg12.view arg13.view rfl hj (by decide) hs _ _ _ (2 * (i 1).val + 1) 128 _ _ _ (k0_off35_eq i 1) rfl (k0_off43_eq i 1) (by omega) rfl _ _ _ rfl rfl rfl _ _ _ _ _ rfl rfl rfl rfl rfl _ _ _ _ _
  have q4 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val + 256) 256 4 (kernelRun0_B.sl.HS2_12 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_12 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    q3.stepD1 arg12.view arg13.view rfl hj (by decide) hs _ _ _ (2 * (i 1).val + 1) 192 _ _ _ (k0_off36_eq i 1) rfl (k0_off44_eq i 1) (by omega) rfl _ _ _ rfl rfl rfl _ _ _ _ _ rfl rfl rfl rfl rfl _ _ _ _ _
  have q5 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val + 256) 256 5 (kernelRun0_B.sl.HS2_13 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_13 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    q4.stepD1 arg12.view arg13.view rfl hj (by decide) hs _ _ _ (2 * (i 1).val + 1) 256 _ _ _ (k0_off37_eq i 1) rfl (k0_off45_eq i 1) (by omega) rfl _ _ _ rfl rfl rfl _ _ _ _ _ rfl rfl rfl rfl rfl _ _ _ _ _
  have q6 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val + 256) 256 6 (kernelRun0_B.sl.HS2_14 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_14 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    q5.stepD1 arg12.view arg13.view rfl hj (by decide) hs _ _ _ (2 * (i 1).val + 1) 320 _ _ _ (k0_off38_eq i 1) rfl (k0_off46_eq i 1) (by omega) rfl _ _ _ rfl rfl rfl _ _ _ _ _ rfl rfl rfl rfl rfl _ _ _ _ _
  have q7 : Seen (arg10.view.read (Elt Ideal) (harg10.unread xs0)) (arg11.view.read (Elt Ideal) (arg11.view.writes (Elt Ideal) arg11.view.junk (kernelRun0_B.sl.HS1_8 (F := Ideal) c arg2 harg2 arg5 harg5 arg7 harg7 x0 x3 x5))) (arg4.view.read (Elt Ideal) (harg4.unread x2)) (i 1).val (512 * (i 1).val + 256) 256 7 (kernelRun0_B.sl.HS2_15 (F := Ideal) c i arg2 harg2 arg3 harg3 arg4 harg4 arg5 harg5 arg6 harg6 arg7 harg7 arg8 harg8 arg9 harg9 arg10 harg10 arg11 harg11 arg12 harg12 arg13 harg13 x0 x2 x3 x5 xs0) (kernelRun0_B.sl.HS3_15 (F := Ideal) c i arg2 harg2 arg3 harg3 arg4 harg4 arg5 harg5 arg6 harg6 arg7 harg7 arg8 harg8 arg9 harg9 arg10 harg10 arg11 harg11 arg12 harg12 arg13 harg13 x0 x2 x3 x5 xs0) :=
    q6.stepD1 arg12.view arg13.view rfl hj (by decide) hs _ _ _ (2 * (i 1).val + 1) 384 _ _ _ (k0_off39_eq i 1) rfl (k0_off47_eq i 1) (by omega) rfl _ _ _ rfl rfl rfl _ _ _ _ _ rfl rfl rfl rfl rfl _ _ _ _ _
  refine ⟨_, q7.stepD1 arg12.view arg13.view rfl hj (by decide) hs _ _ _ (2 * (i 1).val + 1) 448 _ _ _ (k0_off40_eq i 1) rfl (k0_off48_eq i 1) (by omega) rfl _ _ _ rfl rfl rfl ![7, 0, 256] _ ![7, 0, 256] _ _ rfl rfl rfl rfl rfl
    inb_S8x1x512_S1x1x256_7_0_256 _ inb_S8x1x512_S1x1x256_7_0_256 _ _⟩

/-- After both tiles on the diagonal (first point of a row). -/
theorem seen_A (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S512x512 .bf16) (harg9 : arg9.IsWhole) (arg10 : Memref sig .tc .vmem S8x2048x128 .bf16) (harg10 : arg10.IsWhole) (arg11 : Memref sig .tc .vmem S8x512x128 .bf16) (harg11 : arg11.IsWhole) (arg12 : Memref sig .tc .vmem S8x1x512 .f32) (harg12 : arg12.IsWhole) (arg13 : Memref sig .tc .vmem S8x80x512 .f32) (harg13 : arg13.IsWhole) (hc0 : cond0_0 i)     (x0 : Vec Ideal S512x512 .bf16) (x1 : Vec Ideal S2048x512 .bf16) (x2 : Vec Ideal S8x512x256 .bf16) (x3 : Vec Ideal S512x128 .bf16) (x4 : Vec Ideal S2048x128 .bf16) (x5 : Vec Ideal S4x128x256 .bf16) (x6 : Vec Ideal S4x128x256 .bf16)
    (hs : ∀ h r s, sc (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) h r s ≠ ⊤) :
    ∃ Lm, Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val + 256) 256 8 Lm (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) := by
  have hj : (i 1).val < 4 := (i 1).isLt
  have p0 := fun G2m G2a => seen_base Variants.none c none i arg2 harg2 arg3 harg3 arg4 harg4 arg5 harg5 arg6 harg6 arg7 harg7 arg8 harg8 arg9 harg9 arg10 harg10 arg11 harg11 arg12 harg12 arg13 harg13 (BitVec.ofNat 32 (i 1).val) k0_pay232 (kernelRun0_A.sl.v112 i) (harg4.unread x2) (arg10.view.writes (Elt Ideal) arg10.view.junk (kernelRun0_A.sl.HS0_8 (F := Ideal) c arg3 harg3 arg6 harg6 arg8 harg8 x1 x4 x6)) (arg11.view.writes (Elt Ideal) arg11.view.junk (kernelRun0_A.sl.HS1_8 (F := Ideal) c arg2 harg2 arg5 harg5 arg7 harg7 x0 x3 x5))
    G2m G2a (kernelRun0_A.sl.HS2_1 (F := Ideal)) (kernelRun0_A.sl.HS3_1 (F := Ideal)) fill_m fill_a hs
  have p1 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val) 0 1 (kernelRun0_A.sl.HS2_1_1 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_1_1 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    (p0 _ _).stepD0 arg12.view arg13.view rfl hj (by decide) hs _ _ _ (2 * (i 1).val) 0 _ _ _ (k0_off33_eq i 0) rfl (k0_off41_eq i 0) (by omega) rfl _ _ _ rfl rfl rfl _ _ _ _ _ rfl rfl rfl rfl rfl _ _ _ _ _
  have p2 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val) 0 2 (kernelRun0_A.sl.HS2_2 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_2 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    p1.stepD0 arg12.view arg13.view rfl hj (by decide) hs _ _ _ (2 * (i 1).val) 64 _ _ _ (k0_off34_eq i 0) rfl (k0_off42_eq i 0) (by omega) rfl _ _ _ rfl rfl rfl _ _ _ _ _ rfl rfl rfl rfl rfl _ _ _ _ _
  have p3 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val) 0 3 (kernelRun0_A.sl.HS2_3 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_3 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    p2.stepD0 arg12.view arg13.view rfl hj (by decide) hs _ _ _ (2 * (i 1).val) 128 _ _ _ (k0_off35_eq i 0) rfl (k0_off43_eq i 0) (by omega) rfl _ _ _ rfl rfl rfl _ _ _ _ _ rfl rfl rfl rfl rfl _ _ _ _ _
  have p4 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val) 0 4 (kernelRun0_A.sl.HS2_4 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_4 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    p3.stepD0 arg12.view arg13.view rfl hj (by decide) hs _ _ _ (2 * (i 1).val) 192 _ _ _ (k0_off36_eq i 0) rfl (k0_off44_eq i 0) (by omega) rfl _ _ _ rfl rfl rfl _ _ _ _ _ rfl rfl rfl rfl rfl _ _ _ _ _
  have p5 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val) 0 5 (kernelRun0_A.sl.HS2_5 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_5 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    p4.stepD0 arg12.view arg13.view rfl hj (by decide) hs _ _ _ (2 * (i 1).val) 256 _ _ _ (k0_off37_eq i 0) rfl (k0_off45_eq i 0) (by omega) rfl _ _ _ rfl rfl rfl _ _ _ _ _ rfl rfl rfl rfl rfl _ _ _ _ _
  have p6 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val) 0 6 (kernelRun0_A.sl.HS2_6 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_6 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    p5.stepD0 arg12.view arg13.view rfl hj (by decide) hs _ _ _ (2 * (i 1).val) 320 _ _ _ (k0_off38_eq i 0) rfl (k0_off46_eq i 0) (by omega) rfl _ _ _ rfl rfl rfl _ _ _ _ _ rfl rfl rfl rfl rfl _ _ _ _ _
  have p7 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val) 0 7 (kernelRun0_A.sl.HS2_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    p6.stepD0 arg12.view arg13.view rfl hj (by decide) hs _ _ _ (2 * (i 1).val) 384 _ _ _ (k0_off39_eq i 0) rfl (k0_off47_eq i 0) (by omega) rfl _ _ _ rfl rfl rfl _ _ _ _ _ rfl rfl rfl rfl rfl _ _ _ _ _
  have p8 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val) 0 8 (kernelRun0_A.sl.HS2_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    p7.stepD0 arg12.view arg13.view rfl hj (by decide) hs _ _ _ (2 * (i 1).val) 448 _ _ _ (k0_off40_eq i 0) rfl (k0_off48_eq i 0) (by omega) rfl _ _ _ rfl rfl rfl _ _ _ _ _ rfl rfl rfl rfl rfl _ _ _ _ _
  have q0 := p8.next
  have q1 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val + 256) 256 1 (kernelRun0_A.sl.HS2_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    q0.stepD1 arg12.view arg13.view rfl hj (by decide) hs _ _ _ (2 * (i 1).val + 1) 0 _ _ _ (k0_off33_eq i 1) rfl (k0_off41_eq i 1) (by omega) rfl _ _ _ rfl rfl rfl _ _ _ _ _ rfl rfl rfl rfl rfl _ _ _ _ _
  have q2 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val + 256) 256 2 (kernelRun0_A.sl.HS2_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    q1.stepD1 arg12.view arg13.view rfl hj (by decide) hs _ _ _ (2 * (i 1).val + 1) 64 _ _ _ (k0_off34_eq i 1) rfl (k0_off42_eq i 1) (by omega) rfl _ _ _ rfl rfl rfl _ _ _ _ _ rfl rfl rfl rfl rfl _ _ _ _ _
  have q3 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val + 256) 256 3 (kernelRun0_A.sl.HS2_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_11 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    q2.stepD1 arg12.view arg13.view rfl hj (by decide) hs _ _ _ (2 * (i 1).val + 1) 128 _ _ _ (k0_off35_eq i 1) rfl (k0_off43_eq i 1) (by omega) rfl _ _ _ rfl rfl rfl _ _ _ _ _ rfl rfl rfl rfl rfl _ _ _ _ _
  have q4 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val + 256) 256 4 (kernelRun0_A.sl.HS2_12 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_12 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    q3.stepD1 arg12.view arg13.view rfl hj (by decide) hs _ _ _ (2 * (i 1).val + 1) 192 _ _ _ (k0_off36_eq i 1) rfl (k0_off44_eq i 1) (by omega) rfl _ _ _ rfl rfl rfl _ _ _ _ _ rfl rfl rfl rfl rfl _ _ _ _ _
  have q5 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val + 256) 256 5 (kernelRun0_A.sl.HS2_13 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_13 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    q4.stepD1 arg12.view arg13.view rfl hj (by decide) hs _ _ _ (2 * (i 1).val + 1) 256 _ _ _ (k0_off37_eq i 1) rfl (k0_off45_eq i 1) (by omega) rfl _ _ _ rfl rfl rfl _ _ _ _ _ rfl rfl rfl rfl rfl _ _ _ _ _
  have q6 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val + 256) 256 6 (kernelRun0_A.sl.HS2_14 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_14 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    q5.stepD1 arg12.view arg13.view rfl hj (by decide) hs _ _ _ (2 * (i 1).val + 1) 320 _ _ _ (k0_off38_eq i 1) rfl (k0_off46_eq i 1) (by omega) rfl _ _ _ rfl rfl rfl _ _ _ _ _ rfl rfl rfl rfl rfl _ _ _ _ _
  have q7 : Seen (arg10.view.read (Elt Ideal) (arg10.view.writes (Elt Ideal) arg10.view.junk (kernelRun0_A.sl.HS0_8 (F := Ideal) c arg3 harg3 arg6 harg6 arg8 harg8 x1 x4 x6))) (arg11.view.read (Elt Ideal) (arg11.view.writes (Elt Ideal) arg11.view.junk (kernelRun0_A.sl.HS1_8 (F := Ideal) c arg2 harg2 arg5 harg5 arg7 harg7 x0 x3 x5))) (arg4.view.read (Elt Ideal) (harg4.unread x2)) (i 1).val (512 * (i 1).val + 256) 256 7 (kernelRun0_A.sl.HS2_15 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (kernelRun0_A.sl.HS3_15 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) :=
    q6.stepD1 arg12.view arg13.view rfl hj (by decide) hs _ _ _ (2 * (i 1).val + 1) 384 _ _ _ (k0_off39_eq i 1) rfl (k0_off47_eq i 1) (by omega) rfl _ _ _ rfl rfl rfl _ _ _ _ _ rfl rfl rfl rfl rfl _ _ _ _ _
  refine ⟨_, q7.stepD1 arg12.view arg13.view rfl hj (by decide) hs _ _ _ (2 * (i 1).val + 1) 448 _ _ _ (k0_off40_eq i 1) rfl (k0_off48_eq i 1) (by omega) rfl _ _ _ rfl rfl rfl ![7, 0, 256] _ ![7, 0, 256] _ _ rfl rfl rfl rfl rfl
    inb_S8x1x512_S1x1x256_7_0_256 _ inb_S8x1x512_S1x1x256_7_0_256 _ _⟩

end Cert.FoxRow
-- ==== Proof.FoxAug.lean ====
/-
  What the augmented queries and keys of a grid point hold, from its blocks.
-/
module

public import proofs.«01_k».proof.Proof.FoxPoint
public import Idealize.ShloMosaic.Lib.Pipeline.ValueKit
public import Idealize.ShloMosaic.Lib.Pipeline.ReadBack
public import Idealize.ShloMosaic.Lib.Tactic

@[expose] public section

set_option maxRecDepth 16384
set_option maxHeartbeats 2000000

noncomputable section

open Idealize.ShloMosaic Idealize.ShloMosaic.TcCoe Idealize.SL.Sem
open Cert.FoxIdeal Cert.FoxIdeal.Gen Cert.FoxMath

namespace Cert.FoxRow

/-- Half of a head pair's lanes. -/
theorem lane_lt (l : Fin 128) {α : Type} (a b : α) :
    Scalar.select (IntOp.cmpi CmpIPredicate.slt (BitVec.ofNat 32 l.val) 64#32) a b = if l.val < 64 then a else b := by
  have h : ∀ l : Fin 128, IntOp.cmpi CmpIPredicate.slt (BitVec.ofNat 32 l.val) 64#32 = if l.val < 64 then 1#1 else 0#1 := by decide
  unfold Scalar.select
  rw [h l]
  by_cases c : l.val < 64
  · simp [c]
  · simp [c]

/-- The other half of a head pair's lanes. -/
theorem lane_ge (l : Fin 128) {α : Type} (a b : α) :
    Scalar.select (IntOp.cmpi CmpIPredicate.sge (BitVec.ofNat 32 l.val) 64#32) a b = if 64 ≤ l.val then a else b := by
  have h : ∀ l : Fin 128, IntOp.cmpi CmpIPredicate.sge (BitVec.ofNat 32 l.val) 64#32 = if 64 ≤ l.val then 1#1 else 0#1 := by decide
  unfold Scalar.select
  rw [h l]
  by_cases c : 64 ≤ l.val
  · simp [c]
  · simp [c]

/-- The augmented rows: in a head's own lanes its entries, in the other half of the pair's lanes the bias. -/
def aug {n : ℕ} (X : Vec Ideal ⟨2, ![n, 512]⟩ .bf16) (C : Vec Ideal ⟨2, ![n, 128]⟩ .bf16) (S : Vec Ideal S4x128x256 .bf16) :
    Vec Ideal ⟨3, ![8, n, 128]⟩ .bf16 := fun y =>
  let h : Fin 8 := y 0
  let r : Fin n := y 1
  let l : Fin 128 := y 2
  if h.val % 2 = 0 ∧ l.val < 64 ∨ h.val % 2 = 1 ∧ 64 ≤ l.val then X (ix2 r ⟨128 * (h.val / 2) + l.val, by omega⟩)
  else ∑ x : Fin 128, C (ix2 r x) * S (ix3 ⟨h.val / 2, by omega⟩ x ⟨128 * (h.val % 2) + l.val, by omega⟩)

section Aug

variable {n : ℕ} (X : Vec Ideal ⟨2, ![n, 512]⟩ .bf16) (C : Vec Ideal ⟨2, ![n, 128]⟩ .bf16) (S : Vec Ideal S4x128x256 .bf16)

/-- Where a head's box of augmented rows lies. -/
theorem emb_aug (h : Fin 8) (off : Fin 3 → ℕ) (ho : off = ![h.val, 0, 0]) (inb) (r : Fin n) (l : Fin 128) :
    (Rect.unit (s := ⟨3, ![8, n, 128]⟩) off ![1, n, 128] inb).emb (ix3 0 r l) = ix3 h r l := by
  subst ho
  funext a
  refine Fin.ext ((Rect.idx_unit_val _ _ _ _ a).trans ?_)
  fin_cases a
  · rfl
  · show 0 + r.val = r.val
    omega
  · show 0 + l.val = l.val
    omega

/-- An even head's row. -/
theorem aug_even (p : Fin 4) (r : Fin n) (l : Fin 128) :
    aug X C S (ix3 ⟨2 * p.val, by omega⟩ r l) = if l.val < 64 then X (ix2 r ⟨128 * p.val + l.val, by omega⟩)
      else ∑ x : Fin 128, C (ix2 r x) * S (ix3 p x ⟨l.val, by omega⟩) := by
  have e1 : 2 * p.val / 2 = p.val := by omega
  have e2 : 2 * p.val % 2 = 0 := by omega
  show (if (2 * p.val) % 2 = 0 ∧ l.val < 64 ∨ (2 * p.val) % 2 = 1 ∧ 64 ≤ l.val then X (ix2 r ⟨128 * ((2 * p.val) / 2) + l.val, _⟩)
    else ∑ x : Fin 128, C (ix2 r x) * S (ix3 ⟨(2 * p.val) / 2, _⟩ x ⟨128 * ((2 * p.val) % 2) + l.val, _⟩)) = _
  simp only [e1, e2, true_and, Nat.mul_zero, Nat.zero_add, Nat.zero_ne_one, false_and, or_false]

/-- An odd head's row. -/
theorem aug_odd (p : Fin 4) (r : Fin n) (l : Fin 128) :
    aug X C S (ix3 ⟨2 * p.val + 1, by omega⟩ r l) = if 64 ≤ l.val then X (ix2 r ⟨128 * p.val + l.val, by omega⟩)
      else ∑ x : Fin 128, C (ix2 r x) * S (ix3 p x ⟨128 + l.val, by omega⟩) := by
  have e1 : (2 * p.val + 1) / 2 = p.val := by omega
  have e2 : (2 * p.val + 1) % 2 = 1 := by omega
  show (if (2 * p.val + 1) % 2 = 0 ∧ l.val < 64 ∨ (2 * p.val + 1) % 2 = 1 ∧ 64 ≤ l.val then X (ix2 r ⟨128 * ((2 * p.val + 1) / 2) + l.val, _⟩)
    else ∑ x : Fin 128, C (ix2 r x) * S (ix3 ⟨(2 * p.val + 1) / 2, _⟩ x ⟨128 * ((2 * p.val + 1) % 2) + l.val, _⟩)) = _
  simp only [e1, e2, true_and, Nat.mul_one, Nat.one_ne_zero, false_and, false_or]

/-- The box of an even head, whatever payload holds its rows. -/
theorem piece_even (p : Fin 4) {pay : Vec Ideal ⟨2, ![n, 128]⟩ .bf16 → Vec Ideal ⟨2, ![n, 128]⟩ .bf16 → Vec Ideal S1x128x256 .bf16 → Vec Ideal ⟨3, ![1, n, 128]⟩ .bf16}
    (hp : ∀ c q s (r : Fin n) (l : Fin 128), pay c q s (ix3 0 r l) = if l.val < 64 then q (ix2 r l) else ∑ x : Fin 128, c (ix2 r x) * s (ix3 0 x ⟨l.val, by omega⟩))
    {X C S} {c q : Vec Ideal ⟨2, ![n, 128]⟩ .bf16} {s : Vec Ideal S1x128x256 .bf16} (hc : c = C)
    (hq : ∀ (r : Fin n) (l : Fin 128), q (ix2 r l) = X (ix2 r ⟨128 * p.val + l.val, by omega⟩))
    (hs : ∀ (x : Fin 128) (l : Fin 256), s (ix3 0 x l) = S (ix3 p x l))
    (offO : Fin 3 → ℕ) (oO : offO = ![2 * p.val, 0, 0]) (inbO) (x : Shape.Idx ⟨3, ![1, n, 128]⟩) :
    pay c q s x = aug X C S ((Rect.unit (s := ⟨3, ![8, n, 128]⟩) offO ![1, n, 128] inbO).emb x) := by
  obtain ⟨a, r, l, rfl⟩ : ∃ (a : Fin 1) (r : Fin n) (l : Fin 128), x = ix3 a r l := ⟨x 0, x 1, x 2, eq_ix3 x⟩
  obtain rfl : a = 0 := Subsingleton.elim _ _
  subst hc
  rw [hp, emb_aug ⟨2 * p.val, by omega⟩ offO oO, aug_even, hq]
  simp only [hs]

/-- The box of an odd head, whatever payload holds its rows. -/
theorem piece_odd (p : Fin 4) {pay : Vec Ideal ⟨2, ![n, 128]⟩ .bf16 → Vec Ideal ⟨2, ![n, 128]⟩ .bf16 → Vec Ideal S1x128x256 .bf16 → Vec Ideal ⟨3, ![1, n, 128]⟩ .bf16}
    (hp : ∀ c q s (r : Fin n) (l : Fin 128), pay c q s (ix3 0 r l) = if 64 ≤ l.val then q (ix2 r l) else ∑ x : Fin 128, c (ix2 r x) * s (ix3 0 x ⟨128 + l.val, by omega⟩))
    {X C S} {c q : Vec Ideal ⟨2, ![n, 128]⟩ .bf16} {s : Vec Ideal S1x128x256 .bf16} (hc : c = C)
    (hq : ∀ (r : Fin n) (l : Fin 128), q (ix2 r l) = X (ix2 r ⟨128 * p.val + l.val, by omega⟩))
    (hs : ∀ (x : Fin 128) (l : Fin 256), s (ix3 0 x l) = S (ix3 p x l))
    (offO : Fin 3 → ℕ) (oO : offO = ![2 * p.val + 1, 0, 0]) (inbO) (x : Shape.Idx ⟨3, ![1, n, 128]⟩) :
    pay c q s x = aug X C S ((Rect.unit (s := ⟨3, ![8, n, 128]⟩) offO ![1, n, 128] inbO).emb x) := by
  obtain ⟨a, r, l, rfl⟩ : ∃ (a : Fin 1) (r : Fin n) (l : Fin 128), x = ix3 a r l := ⟨x 0, x 1, x 2, eq_ix3 x⟩
  obtain rfl : a = 0 := Subsingleton.elim _ _
  subst hc
  rw [hp, emb_aug ⟨2 * p.val + 1, by omega⟩ offO oO, aug_odd, hq]
  simp only [hs]

/-- A pair's lanes of a block of entries. -/
theorem read_x (m : Memref sig .tc .vmem ⟨2, ![n, 512]⟩ .bf16) (hm : m.IsWhole) (p : Fin 4) (off : Fin 2 → ℕ) (ho : off = ![0, 128 * p.val]) (inb) (r : Fin n) (l : Fin 128) :
    m.view.readAt (Elt Ideal) (Rect.unit (s := ⟨2, ![n, 512]⟩) off ![n, 128] inb).toLoadRect (hm.unread X) (ix2 r l) = X (ix2 r ⟨128 * p.val + l.val, by omega⟩) := by
  subst ho
  rw [View.readAt_eq_ld, hm.read_unread]
  refine View.ld_unit_apply_of (Val := Elt Ideal) (e := .bf16) _ _ _ _ _ _ fun a => ?_
  fin_cases a
  · show r.val = 0 + r.val
    omega
  · rfl

/-- A pair's selector. -/
theorem read_s (m : Memref sig .tc .vmem S4x128x256 .bf16) (hm : m.IsWhole) (p : Fin 4) (off : Fin 3 → ℕ) (ho : off = ![p.val, 0, 0]) (inb) (x : Fin 128) (l : Fin 256) :
    m.view.readAt (Elt Ideal) (Rect.unit (s := S4x128x256) off ![1, 128, 256] inb).toLoadRect (hm.unread S) (ix3 0 x l) = S (ix3 p x l) := by
  subst ho
  rw [View.readAt_eq_ld, hm.read_unread]
  refine View.ld_unit_apply_of (Val := Elt Ideal) (e := .bf16) _ _ _ _ _ _ fun a => ?_
  fin_cases a
  · rfl
  · show x.val = 0 + x.val
    omega
  · show l.val = 0 + l.val
    omega

/-- The bias parts, the whole block. -/
theorem read_c (m : Memref sig .tc .vmem ⟨2, ![n, 128]⟩ .bf16) (hm : m.IsWhole) (off : Fin 2 → ℕ) (ho : off = ![0, 0]) (inb) :
    m.view.readAt (Elt Ideal) (Rect.unit (s := ⟨2, ![n, 128]⟩) off ![n, 128] inb).toLoadRect (hm.unread C) = C := by
  subst ho
  rw [View.readAt_eq_ld, hm.read_unread]
  exact View.ld_unit_zero (by funext a; fin_cases a <;> rfl) _ _

end Aug

/-- An even head's rows of the queries, as the kernel computes them. -/
def qEven (c q : Vec Ideal S512x128 .bf16) (s : Vec Ideal S1x128x256 .bf16) : Vec Ideal S1x512x128 .bf16 := k0_pay215 c q s
/-- An odd head's rows of the queries. -/
def qOdd (c q : Vec Ideal S512x128 .bf16) (s : Vec Ideal S1x128x256 .bf16) : Vec Ideal S1x512x128 .bf16 := k0_pay216 c q s
/-- An even head's rows of the keys. -/
def kEven (c q : Vec Ideal S2048x128 .bf16) (s : Vec Ideal S1x128x256 .bf16) : Vec Ideal S1x2048x128 .bf16 := k0_pay5 c q s
/-- An odd head's rows of the keys. -/
def kOdd (c q : Vec Ideal S2048x128 .bf16) (s : Vec Ideal S1x128x256 .bf16) : Vec Ideal S1x2048x128 .bf16 := k0_pay6 c q s

theorem qEven_apply (c q : Vec Ideal S512x128 .bf16) (s : Vec Ideal S1x128x256 .bf16) (r : Fin 512) (l : Fin 128) :
    qEven c q s (ix3 0 r l) = if l.val < 64 then q (ix2 r l) else ∑ x : Fin 128, c (ix2 r x) * s (ix3 0 x ⟨l.val, by omega⟩) := by
  pointwise [qEven, k0_pay215, k0_pay213, k0_pay214, k0_pay212]
  exact lane_lt l _ _
theorem qOdd_apply (c q : Vec Ideal S512x128 .bf16) (s : Vec Ideal S1x128x256 .bf16) (r : Fin 512) (l : Fin 128) :
    qOdd c q s (ix3 0 r l) = if 64 ≤ l.val then q (ix2 r l) else ∑ x : Fin 128, c (ix2 r x) * s (ix3 0 x ⟨128 + l.val, by omega⟩) := by
  pointwise [qOdd, k0_pay216, k0_pay213, k0_pay214, k0_pay212]
  exact lane_ge l _ _
theorem kEven_apply (c q : Vec Ideal S2048x128 .bf16) (s : Vec Ideal S1x128x256 .bf16) (r : Fin 2048) (l : Fin 128) :
    kEven c q s (ix3 0 r l) = if l.val < 64 then q (ix2 r l) else ∑ x : Fin 128, c (ix2 r x) * s (ix3 0 x ⟨l.val, by omega⟩) := by
  pointwise [kEven, k0_pay5, k0_pay4, k0_pay3, k0_pay2]
  exact lane_lt l _ _
theorem kOdd_apply (c q : Vec Ideal S2048x128 .bf16) (s : Vec Ideal S1x128x256 .bf16) (r : Fin 2048) (l : Fin 128) :
    kOdd c q s (ix3 0 r l) = if 64 ≤ l.val then q (ix2 r l) else ∑ x : Fin 128, c (ix2 r x) * s (ix3 0 x ⟨128 + l.val, by omega⟩) := by
  pointwise [kOdd, k0_pay6, k0_pay4, k0_pay3, k0_pay2]
  exact lane_ge l _ _

/-- The augmented queries a point holds (first point of a row). -/
theorem qaug_A (c : Dev nD) (arg2 : Memref sig .tc .vmem S512x512 .bf16) (harg2 : arg2.IsWhole) (arg5 : Memref sig .tc .vmem S512x128 .bf16) (harg5 : arg5.IsWhole) (arg7 : Memref sig .tc .vmem S4x128x256 .bf16) (harg7 : arg7.IsWhole) (x0 : Vec Ideal S512x512 .bf16) (x3 : Vec Ideal S512x128 .bf16) (x5 : Vec Ideal S4x128x256 .bf16) :
    View.canon (Val := Elt Ideal) (kernelRun0_A.sl.HS1_8 (F := Ideal) c arg2 harg2 arg5 harg5 arg7 harg7 x0 x3 x5) = aug (n := 512) x0 x3 x5 := by
  funext y
  refine View.canon_append_of_piecesOf (Val := Elt Ideal) (aug (n := 512) x0 x3 x5) [] [_, _, _, _, _, _, _, _]
    ⟨fun x => ?_, fun x => ?_, fun x => ?_, fun x => ?_, fun x => ?_, fun x => ?_, fun x => ?_, fun x => ?_, trivial⟩ y (View.cover_of_tiled_head _ _ _ rfl y)
  · exact (congrFun (rfl : _ = qOdd (arg5.view.readAt (Elt Ideal) (Rect.unit (s := S512x128) ![0, 0] S512x128.size inb_S512x128_S512x128_0_0).toLoadRect (harg5.unread x3)) (arg2.view.readAt (Elt Ideal) (Rect.unit (s := S512x512) ![0, 384] S512x128.size inb_S512x512_S512x128_0_384).toLoadRect (harg2.unread x0)) (arg7.view.readAt (Elt Ideal) (Rect.unit (s := S4x128x256) ![3, 0, 0] S1x128x256.size inb_S4x128x256_S1x128x256_3_0_0).toLoadRect (harg7.unread x5))) x).trans
      (piece_odd (n := 512) 3 qOdd_apply (read_c x3 arg5 harg5 _ rfl _) (read_x x0 arg2 harg2 3 _ rfl _) (read_s x5 arg7 harg7 3 _ rfl _) _ rfl inb_S8x512x128_S1x512x128_7_0_0 x)
  · exact (congrFun (rfl : _ = qEven (arg5.view.readAt (Elt Ideal) (Rect.unit (s := S512x128) ![0, 0] S512x128.size inb_S512x128_S512x128_0_0).toLoadRect (harg5.unread x3)) (arg2.view.readAt (Elt Ideal) (Rect.unit (s := S512x512) ![0, 384] S512x128.size inb_S512x512_S512x128_0_384).toLoadRect (harg2.unread x0)) (arg7.view.readAt (Elt Ideal) (Rect.unit (s := S4x128x256) ![3, 0, 0] S1x128x256.size inb_S4x128x256_S1x128x256_3_0_0).toLoadRect (harg7.unread x5))) x).trans
      (piece_even (n := 512) 3 qEven_apply (read_c x3 arg5 harg5 _ rfl _) (read_x x0 arg2 harg2 3 _ rfl _) (read_s x5 arg7 harg7 3 _ rfl _) _ rfl inb_S8x512x128_S1x512x128_6_0_0 x)
  · exact (congrFun (rfl : _ = qOdd (arg5.view.readAt (Elt Ideal) (Rect.unit (s := S512x128) ![0, 0] S512x128.size inb_S512x128_S512x128_0_0).toLoadRect (harg5.unread x3)) (arg2.view.readAt (Elt Ideal) (Rect.unit (s := S512x512) ![0, 256] S512x128.size inb_S512x512_S512x128_0_256).toLoadRect (harg2.unread x0)) (arg7.view.readAt (Elt Ideal) (Rect.unit (s := S4x128x256) ![2, 0, 0] S1x128x256.size inb_S4x128x256_S1x128x256_2_0_0).toLoadRect (harg7.unread x5))) x).trans
      (piece_odd (n := 512) 2 qOdd_apply (read_c x3 arg5 harg5 _ rfl _) (read_x x0 arg2 harg2 2 _ rfl _) (read_s x5 arg7 harg7 2 _ rfl _) _ rfl inb_S8x512x128_S1x512x128_5_0_0 x)
  · exact (congrFun (rfl : _ = qEven (arg5.view.readAt (Elt Ideal) (Rect.unit (s := S512x128) ![0, 0] S512x128.size inb_S512x128_S512x128_0_0).toLoadRect (harg5.unread x3)) (arg2.view.readAt (Elt Ideal) (Rect.unit (s := S512x512) ![0, 256] S512x128.size inb_S512x512_S512x128_0_256).toLoadRect (harg2.unread x0)) (arg7.view.readAt (Elt Ideal) (Rect.unit (s := S4x128x256) ![2, 0, 0] S1x128x256.size inb_S4x128x256_S1x128x256_2_0_0).toLoadRect (harg7.unread x5))) x).trans
      (piece_even (n := 512) 2 qEven_apply (read_c x3 arg5 harg5 _ rfl _) (read_x x0 arg2 harg2 2 _ rfl _) (read_s x5 arg7 harg7 2 _ rfl _) _ rfl inb_S8x512x128_S1x512x128_4_0_0 x)
  · exact (congrFun (rfl : _ = qOdd (arg5.view.readAt (Elt Ideal) (Rect.unit (s := S512x128) ![0, 0] S512x128.size inb_S512x128_S512x128_0_0).toLoadRect (harg5.unread x3)) (arg2.view.readAt (Elt Ideal) (Rect.unit (s := S512x512) ![0, 128] S512x128.size inb_S512x512_S512x128_0_128).toLoadRect (harg2.unread x0)) (arg7.view.readAt (Elt Ideal) (Rect.unit (s := S4x128x256) ![1, 0, 0] S1x128x256.size inb_S4x128x256_S1x128x256_1_0_0).toLoadRect (harg7.unread x5))) x).trans
      (piece_odd (n := 512) 1 qOdd_apply (read_c x3 arg5 harg5 _ rfl _) (read_x x0 arg2 harg2 1 _ rfl _) (read_s x5 arg7 harg7 1 _ rfl _) _ rfl inb_S8x512x128_S1x512x128_3_0_0 x)
  · exact (congrFun (rfl : _ = qEven (arg5.view.readAt (Elt Ideal) (Rect.unit (s := S512x128) ![0, 0] S512x128.size inb_S512x128_S512x128_0_0).toLoadRect (harg5.unread x3)) (arg2.view.readAt (Elt Ideal) (Rect.unit (s := S512x512) ![0, 128] S512x128.size inb_S512x512_S512x128_0_128).toLoadRect (harg2.unread x0)) (arg7.view.readAt (Elt Ideal) (Rect.unit (s := S4x128x256) ![1, 0, 0] S1x128x256.size inb_S4x128x256_S1x128x256_1_0_0).toLoadRect (harg7.unread x5))) x).trans
      (piece_even (n := 512) 1 qEven_apply (read_c x3 arg5 harg5 _ rfl _) (read_x x0 arg2 harg2 1 _ rfl _) (read_s x5 arg7 harg7 1 _ rfl _) _ rfl inb_S8x512x128_S1x512x128_2_0_0 x)
  · exact (congrFun (rfl : _ = qOdd (arg5.view.readAt (Elt Ideal) (Rect.unit (s := S512x128) ![0, 0] S512x128.size inb_S512x128_S512x128_0_0).toLoadRect (harg5.unread x3)) (arg2.view.readAt (Elt Ideal) (Rect.unit (s := S512x512) ![0, 0] S512x128.size inb_S512x512_S512x128_0_0).toLoadRect (harg2.unread x0)) (arg7.view.readAt (Elt Ideal) (Rect.unit (s := S4x128x256) ![0, 0, 0] S1x128x256.size inb_S4x128x256_S1x128x256_0_0_0).toLoadRect (harg7.unread x5))) x).trans
      (piece_odd (n := 512) 0 qOdd_apply (read_c x3 arg5 harg5 _ rfl _) (read_x x0 arg2 harg2 0 _ rfl _) (read_s x5 arg7 harg7 0 _ rfl _) _ rfl inb_S8x512x128_S1x512x128_1_0_0 x)
  · exact (congrFun (rfl : _ = qEven (arg5.view.readAt (Elt Ideal) (Rect.unit (s := S512x128) ![0, 0] S512x128.size inb_S512x128_S512x128_0_0).toLoadRect (harg5.unread x3)) (arg2.view.readAt (Elt Ideal) (Rect.unit (s := S512x512) ![0, 0] S512x128.size inb_S512x512_S512x128_0_0).toLoadRect (harg2.unread x0)) (arg7.view.readAt (Elt Ideal) (Rect.unit (s := S4x128x256) ![0, 0, 0] S1x128x256.size inb_S4x128x256_S1x128x256_0_0_0).toLoadRect (harg7.unread x5))) x).trans
      (piece_even (n := 512) 0 qEven_apply (read_c x3 arg5 harg5 _ rfl _) (read_x x0 arg2 harg2 0 _ rfl _) (read_s x5 arg7 harg7 0 _ rfl _) _ rfl inb_S8x512x128_S1x512x128_0_0_0 x)

/-- The augmented queries a point holds (later point of a row). -/
theorem qaug_B (c : Dev nD) (arg2 : Memref sig .tc .vmem S512x512 .bf16) (harg2 : arg2.IsWhole) (arg5 : Memref sig .tc .vmem S512x128 .bf16) (harg5 : arg5.IsWhole) (arg7 : Memref sig .tc .vmem S4x128x256 .bf16) (harg7 : arg7.IsWhole) (x0 : Vec Ideal S512x512 .bf16) (x3 : Vec Ideal S512x128 .bf16) (x5 : Vec Ideal S4x128x256 .bf16) :
    View.canon (Val := Elt Ideal) (kernelRun0_B.sl.HS1_8 (F := Ideal) c arg2 harg2 arg5 harg5 arg7 harg7 x0 x3 x5) = aug (n := 512) x0 x3 x5 := by
  funext y
  refine View.canon_append_of_piecesOf (Val := Elt Ideal) (aug (n := 512) x0 x3 x5) [] [_, _, _, _, _, _, _, _]
    ⟨fun x => ?_, fun x => ?_, fun x => ?_, fun x => ?_, fun x => ?_, fun x => ?_, fun x => ?_, fun x => ?_, trivial⟩ y (View.cover_of_tiled_head _ _ _ rfl y)
  · exact (congrFun (rfl : _ = qOdd (arg5.view.readAt (Elt Ideal) (Rect.unit (s := S512x128) ![0, 0] S512x128.size inb_S512x128_S512x128_0_0).toLoadRect (harg5.unread x3)) (arg2.view.readAt (Elt Ideal) (Rect.unit (s := S512x512) ![0, 384] S512x128.size inb_S512x512_S512x128_0_384).toLoadRect (harg2.unread x0)) (arg7.view.readAt (Elt Ideal) (Rect.unit (s := S4x128x256) ![3, 0, 0] S1x128x256.size inb_S4x128x256_S1x128x256_3_0_0).toLoadRect (harg7.unread x5))) x).trans
      (piece_odd (n := 512) 3 qOdd_apply (read_c x3 arg5 harg5 _ rfl _) (read_x x0 arg2 harg2 3 _ rfl _) (read_s x5 arg7 harg7 3 _ rfl _) _ rfl inb_S8x512x128_S1x512x128_7_0_0 x)
  · exact (congrFun (rfl : _ = qEven (arg5.view.readAt (Elt Ideal) (Rect.unit (s := S512x128) ![0, 0] S512x128.size inb_S512x128_S512x128_0_0).toLoadRect (harg5.unread x3)) (arg2.view.readAt (Elt Ideal) (Rect.unit (s := S512x512) ![0, 384] S512x128.size inb_S512x512_S512x128_0_384).toLoadRect (harg2.unread x0)) (arg7.view.readAt (Elt Ideal) (Rect.unit (s := S4x128x256) ![3, 0, 0] S1x128x256.size inb_S4x128x256_S1x128x256_3_0_0).toLoadRect (harg7.unread x5))) x).trans
      (piece_even (n := 512) 3 qEven_apply (read_c x3 arg5 harg5 _ rfl _) (read_x x0 arg2 harg2 3 _ rfl _) (read_s x5 arg7 harg7 3 _ rfl _) _ rfl inb_S8x512x128_S1x512x128_6_0_0 x)
  · exact (congrFun (rfl : _ = qOdd (arg5.view.readAt (Elt Ideal) (Rect.unit (s := S512x128) ![0, 0] S512x128.size inb_S512x128_S512x128_0_0).toLoadRect (harg5.unread x3)) (arg2.view.readAt (Elt Ideal) (Rect.unit (s := S512x512) ![0, 256] S512x128.size inb_S512x512_S512x128_0_256).toLoadRect (harg2.unread x0)) (arg7.view.readAt (Elt Ideal) (Rect.unit (s := S4x128x256) ![2, 0, 0] S1x128x256.size inb_S4x128x256_S1x128x256_2_0_0).toLoadRect (harg7.unread x5))) x).trans
      (piece_odd (n := 512) 2 qOdd_apply (read_c x3 arg5 harg5 _ rfl _) (read_x x0 arg2 harg2 2 _ rfl _) (read_s x5 arg7 harg7 2 _ rfl _) _ rfl inb_S8x512x128_S1x512x128_5_0_0 x)
  · exact (congrFun (rfl : _ = qEven (arg5.view.readAt (Elt Ideal) (Rect.unit (s := S512x128) ![0, 0] S512x128.size inb_S512x128_S512x128_0_0).toLoadRect (harg5.unread x3)) (arg2.view.readAt (Elt Ideal) (Rect.unit (s := S512x512) ![0, 256] S512x128.size inb_S512x512_S512x128_0_256).toLoadRect (harg2.unread x0)) (arg7.view.readAt (Elt Ideal) (Rect.unit (s := S4x128x256) ![2, 0, 0] S1x128x256.size inb_S4x128x256_S1x128x256_2_0_0).toLoadRect (harg7.unread x5))) x).trans
      (piece_even (n := 512) 2 qEven_apply (read_c x3 arg5 harg5 _ rfl _) (read_x x0 arg2 harg2 2 _ rfl _) (read_s x5 arg7 harg7 2 _ rfl _) _ rfl inb_S8x512x128_S1x512x128_4_0_0 x)
  · exact (congrFun (rfl : _ = qOdd (arg5.view.readAt (Elt Ideal) (Rect.unit (s := S512x128) ![0, 0] S512x128.size inb_S512x128_S512x128_0_0).toLoadRect (harg5.unread x3)) (arg2.view.readAt (Elt Ideal) (Rect.unit (s := S512x512) ![0, 128] S512x128.size inb_S512x512_S512x128_0_128).toLoadRect (harg2.unread x0)) (arg7.view.readAt (Elt Ideal) (Rect.unit (s := S4x128x256) ![1, 0, 0] S1x128x256.size inb_S4x128x256_S1x128x256_1_0_0).toLoadRect (harg7.unread x5))) x).trans
      (piece_odd (n := 512) 1 qOdd_apply (read_c x3 arg5 harg5 _ rfl _) (read_x x0 arg2 harg2 1 _ rfl _) (read_s x5 arg7 harg7 1 _ rfl _) _ rfl inb_S8x512x128_S1x512x128_3_0_0 x)
  · exact (congrFun (rfl : _ = qEven (arg5.view.readAt (Elt Ideal) (Rect.unit (s := S512x128) ![0, 0] S512x128.size inb_S512x128_S512x128_0_0).toLoadRect (harg5.unread x3)) (arg2.view.readAt (Elt Ideal) (Rect.unit (s := S512x512) ![0, 128] S512x128.size inb_S512x512_S512x128_0_128).toLoadRect (harg2.unread x0)) (arg7.view.readAt (Elt Ideal) (Rect.unit (s := S4x128x256) ![1, 0, 0] S1x128x256.size inb_S4x128x256_S1x128x256_1_0_0).toLoadRect (harg7.unread x5))) x).trans
      (piece_even (n := 512) 1 qEven_apply (read_c x3 arg5 harg5 _ rfl _) (read_x x0 arg2 harg2 1 _ rfl _) (read_s x5 arg7 harg7 1 _ rfl _) _ rfl inb_S8x512x128_S1x512x128_2_0_0 x)
  · exact (congrFun (rfl : _ = qOdd (arg5.view.readAt (Elt Ideal) (Rect.unit (s := S512x128) ![0, 0] S512x128.size inb_S512x128_S512x128_0_0).toLoadRect (harg5.unread x3)) (arg2.view.readAt (Elt Ideal) (Rect.unit (s := S512x512) ![0, 0] S512x128.size inb_S512x512_S512x128_0_0).toLoadRect (harg2.unread x0)) (arg7.view.readAt (Elt Ideal) (Rect.unit (s := S4x128x256) ![0, 0, 0] S1x128x256.size inb_S4x128x256_S1x128x256_0_0_0).toLoadRect (harg7.unread x5))) x).trans
      (piece_odd (n := 512) 0 qOdd_apply (read_c x3 arg5 harg5 _ rfl _) (read_x x0 arg2 harg2 0 _ rfl _) (read_s x5 arg7 harg7 0 _ rfl _) _ rfl inb_S8x512x128_S1x512x128_1_0_0 x)
  · exact (congrFun (rfl : _ = qEven (arg5.view.readAt (Elt Ideal) (Rect.unit (s := S512x128) ![0, 0] S512x128.size inb_S512x128_S512x128_0_0).toLoadRect (harg5.unread x3)) (arg2.view.readAt (Elt Ideal) (Rect.unit (s := S512x512) ![0, 0] S512x128.size inb_S512x512_S512x128_0_0).toLoadRect (harg2.unread x0)) (arg7.view.readAt (Elt Ideal) (Rect.unit (s := S4x128x256) ![0, 0, 0] S1x128x256.size inb_S4x128x256_S1x128x256_0_0_0).toLoadRect (harg7.unread x5))) x).trans
      (piece_even (n := 512) 0 qEven_apply (read_c x3 arg5 harg5 _ rfl _) (read_x x0 arg2 harg2 0 _ rfl _) (read_s x5 arg7 harg7 0 _ rfl _) _ rfl inb_S8x512x128_S1x512x128_0_0_0 x)

/-- The augmented keys a point holds (first point of a row). -/
theorem kaug_A (c : Dev nD) (arg3 : Memref sig .tc .vmem S2048x512 .bf16) (harg3 : arg3.IsWhole) (arg6 : Memref sig .tc .vmem S2048x128 .bf16) (harg6 : arg6.IsWhole) (arg8 : Memref sig .tc .vmem S4x128x256 .bf16) (harg8 : arg8.IsWhole) (x1 : Vec Ideal S2048x512 .bf16) (x4 : Vec Ideal S2048x128 .bf16) (x6 : Vec Ideal S4x128x256 .bf16) :
    View.canon (Val := Elt Ideal) (kernelRun0_A.sl.HS0_8 (F := Ideal) c arg3 harg3 arg6 harg6 arg8 harg8 x1 x4 x6) = aug (n := 2048) x1 x4 x6 := by
  funext y
  refine View.canon_append_of_piecesOf (Val := Elt Ideal) (aug (n := 2048) x1 x4 x6) [] [_, _, _, _, _, _, _, _]
    ⟨fun x => ?_, fun x => ?_, fun x => ?_, fun x => ?_, fun x => ?_, fun x => ?_, fun x => ?_, fun x => ?_, trivial⟩ y (View.cover_of_tiled_head _ _ _ rfl y)
  · exact (congrFun (rfl : _ = kOdd (arg6.view.readAt (Elt Ideal) (Rect.unit (s := S2048x128) ![0, 0] S2048x128.size inb_S2048x128_S2048x128_0_0).toLoadRect (harg6.unread x4)) (arg3.view.readAt (Elt Ideal) (Rect.unit (s := S2048x512) ![0, 384] S2048x128.size inb_S2048x512_S2048x128_0_384).toLoadRect (harg3.unread x1)) (arg8.view.readAt (Elt Ideal) (Rect.unit (s := S4x128x256) ![3, 0, 0] S1x128x256.size inb_S4x128x256_S1x128x256_3_0_0).toLoadRect (harg8.unread x6))) x).trans
      (piece_odd (n := 2048) 3 kOdd_apply (read_c x4 arg6 harg6 _ rfl _) (read_x x1 arg3 harg3 3 _ rfl _) (read_s x6 arg8 harg8 3 _ rfl _) _ rfl inb_S8x2048x128_S1x2048x128_7_0_0 x)
  · exact (congrFun (rfl : _ = kEven (arg6.view.readAt (Elt Ideal) (Rect.unit (s := S2048x128) ![0, 0] S2048x128.size inb_S2048x128_S2048x128_0_0).toLoadRect (harg6.unread x4)) (arg3.view.readAt (Elt Ideal) (Rect.unit (s := S2048x512) ![0, 384] S2048x128.size inb_S2048x512_S2048x128_0_384).toLoadRect (harg3.unread x1)) (arg8.view.readAt (Elt Ideal) (Rect.unit (s := S4x128x256) ![3, 0, 0] S1x128x256.size inb_S4x128x256_S1x128x256_3_0_0).toLoadRect (harg8.unread x6))) x).trans
      (piece_even (n := 2048) 3 kEven_apply (read_c x4 arg6 harg6 _ rfl _) (read_x x1 arg3 harg3 3 _ rfl _) (read_s x6 arg8 harg8 3 _ rfl _) _ rfl inb_S8x2048x128_S1x2048x128_6_0_0 x)
  · exact (congrFun (rfl : _ = kOdd (arg6.view.readAt (Elt Ideal) (Rect.unit (s := S2048x128) ![0, 0] S2048x128.size inb_S2048x128_S2048x128_0_0).toLoadRect (harg6.unread x4)) (arg3.view.readAt (Elt Ideal) (Rect.unit (s := S2048x512) ![0, 256] S2048x128.size inb_S2048x512_S2048x128_0_256).toLoadRect (harg3.unread x1)) (arg8.view.readAt (Elt Ideal) (Rect.unit (s := S4x128x256) ![2, 0, 0] S1x128x256.size inb_S4x128x256_S1x128x256_2_0_0).toLoadRect (harg8.unread x6))) x).trans
      (piece_odd (n := 2048) 2 kOdd_apply (read_c x4 arg6 harg6 _ rfl _) (read_x x1 arg3 harg3 2 _ rfl _) (read_s x6 arg8 harg8 2 _ rfl _) _ rfl inb_S8x2048x128_S1x2048x128_5_0_0 x)
  · exact (congrFun (rfl : _ = kEven (arg6.view.readAt (Elt Ideal) (Rect.unit (s := S2048x128) ![0, 0] S2048x128.size inb_S2048x128_S2048x128_0_0).toLoadRect (harg6.unread x4)) (arg3.view.readAt (Elt Ideal) (Rect.unit (s := S2048x512) ![0, 256] S2048x128.size inb_S2048x512_S2048x128_0_256).toLoadRect (harg3.unread x1)) (arg8.view.readAt (Elt Ideal) (Rect.unit (s := S4x128x256) ![2, 0, 0] S1x128x256.size inb_S4x128x256_S1x128x256_2_0_0).toLoadRect (harg8.unread x6))) x).trans
      (piece_even (n := 2048) 2 kEven_apply (read_c x4 arg6 harg6 _ rfl _) (read_x x1 arg3 harg3 2 _ rfl _) (read_s x6 arg8 harg8 2 _ rfl _) _ rfl inb_S8x2048x128_S1x2048x128_4_0_0 x)
  · exact (congrFun (rfl : _ = kOdd (arg6.view.readAt (Elt Ideal) (Rect.unit (s := S2048x128) ![0, 0] S2048x128.size inb_S2048x128_S2048x128_0_0).toLoadRect (harg6.unread x4)) (arg3.view.readAt (Elt Ideal) (Rect.unit (s := S2048x512) ![0, 128] S2048x128.size inb_S2048x512_S2048x128_0_128).toLoadRect (harg3.unread x1)) (arg8.view.readAt (Elt Ideal) (Rect.unit (s := S4x128x256) ![1, 0, 0] S1x128x256.size inb_S4x128x256_S1x128x256_1_0_0).toLoadRect (harg8.unread x6))) x).trans
      (piece_odd (n := 2048) 1 kOdd_apply (read_c x4 arg6 harg6 _ rfl _) (read_x x1 arg3 harg3 1 _ rfl _) (read_s x6 arg8 harg8 1 _ rfl _) _ rfl inb_S8x2048x128_S1x2048x128_3_0_0 x)
  · exact (congrFun (rfl : _ = kEven (arg6.view.readAt (Elt Ideal) (Rect.unit (s := S2048x128) ![0, 0] S2048x128.size inb_S2048x128_S2048x128_0_0).toLoadRect (harg6.unread x4)) (arg3.view.readAt (Elt Ideal) (Rect.unit (s := S2048x512) ![0, 128] S2048x128.size inb_S2048x512_S2048x128_0_128).toLoadRect (harg3.unread x1)) (arg8.view.readAt (Elt Ideal) (Rect.unit (s := S4x128x256) ![1, 0, 0] S1x128x256.size inb_S4x128x256_S1x128x256_1_0_0).toLoadRect (harg8.unread x6))) x).trans
      (piece_even (n := 2048) 1 kEven_apply (read_c x4 arg6 harg6 _ rfl _) (read_x x1 arg3 harg3 1 _ rfl _) (read_s x6 arg8 harg8 1 _ rfl _) _ rfl inb_S8x2048x128_S1x2048x128_2_0_0 x)
  · exact (congrFun (rfl : _ = kOdd (arg6.view.readAt (Elt Ideal) (Rect.unit (s := S2048x128) ![0, 0] S2048x128.size inb_S2048x128_S2048x128_0_0).toLoadRect (harg6.unread x4)) (arg3.view.readAt (Elt Ideal) (Rect.unit (s := S2048x512) ![0, 0] S2048x128.size inb_S2048x512_S2048x128_0_0).toLoadRect (harg3.unread x1)) (arg8.view.readAt (Elt Ideal) (Rect.unit (s := S4x128x256) ![0, 0, 0] S1x128x256.size inb_S4x128x256_S1x128x256_0_0_0).toLoadRect (harg8.unread x6))) x).trans
      (piece_odd (n := 2048) 0 kOdd_apply (read_c x4 arg6 harg6 _ rfl _) (read_x x1 arg3 harg3 0 _ rfl _) (read_s x6 arg8 harg8 0 _ rfl _) _ rfl inb_S8x2048x128_S1x2048x128_1_0_0 x)
  · exact (congrFun (rfl : _ = kEven (arg6.view.readAt (Elt Ideal) (Rect.unit (s := S2048x128) ![0, 0] S2048x128.size inb_S2048x128_S2048x128_0_0).toLoadRect (harg6.unread x4)) (arg3.view.readAt (Elt Ideal) (Rect.unit (s := S2048x512) ![0, 0] S2048x128.size inb_S2048x512_S2048x128_0_0).toLoadRect (harg3.unread x1)) (arg8.view.readAt (Elt Ideal) (Rect.unit (s := S4x128x256) ![0, 0, 0] S1x128x256.size inb_S4x128x256_S1x128x256_0_0_0).toLoadRect (harg8.unread x6))) x).trans
      (piece_even (n := 2048) 0 kEven_apply (read_c x4 arg6 harg6 _ rfl _) (read_x x1 arg3 harg3 0 _ rfl _) (read_s x6 arg8 harg8 0 _ rfl _) _ rfl inb_S8x2048x128_S1x2048x128_0_0_0 x)

end Cert.FoxRow
-- ==== Proof.FoxOut.lean ====
/-
  What a grid point of the attention kernel stores, and the keys it leaves, from its blocks.
-/
module

public import proofs.«01_k».proof.Proof.FoxAug
public import Idealize.ShloMosaic.Lib.Pipeline.ValueKit
public import Idealize.ShloMosaic.Lib.Pipeline.ReadBack
public import Idealize.ShloMosaic.Lib.Tactic

@[expose] public section

set_option maxRecDepth 16384
set_option maxHeartbeats 2000000

noncomputable section

open Idealize.ShloMosaic Idealize.ShloMosaic.TcCoe Idealize.SL.Sem
open Cert.FoxIdeal Cert.FoxIdeal.Gen Cert.FoxMath

namespace Cert.FoxRow

/-! ## What a point stores -/

/-- The two heads of a pair, each divided by its sum of weights, side by side. -/
def outP (A0 A1 : Vec Ideal S1x80x512 .f32) : Vec Ideal S512x128 .bf16 := k0_pay359 (k0_pay358 A0) A1

theorem outP_apply (A0 A1 : Vec Ideal S1x80x512 .f32) (r : Fin 512) (e : Fin 128) :
    outP A0 A1 (ix2 r e) = if h : e.val < 64 then A0 (ix3 0 ⟨e.val, by omega⟩ r) * Ideal.div 1 (A0 (ix3 0 64 r))
      else A1 (ix3 0 ⟨e.val - 64, by omega⟩ r) * Ideal.div 1 (A1 (ix3 0 64 r)) := by
  pointwise [outP, k0_pay359, k0_pay358]

/-- The block of outputs from the running sums. -/
def outG (A : Vec Ideal S8x80x512 .f32) : Vec Ideal S512x512 .bf16 := fun y =>
  let r : Fin 512 := y 0
  let e : Fin 512 := y 1
  A (ix3 ⟨e.val / 64, by omega⟩ ⟨e.val % 64, by omega⟩ r) * Ideal.div 1 (A (ix3 ⟨e.val / 64, by omega⟩ 64 r))

/-- A pair's box of outputs. -/
theorem piece_out (v13 : View sig .tc .vmem S8x80x512 .f32) (La : List (View.Piece (Elt Ideal) S8x80x512 .f32)) (p : Fin 4)
    (off0 off1 : Fin 3 → ℕ) (offO : Fin 2 → ℕ) (o0 : off0 = ![2 * p.val, 0, 0]) (o1 : off1 = ![2 * p.val + 1, 0, 0]) (oO : offO = ![0, 128 * p.val])
    (inb0) (inb1) (inbO) (x : Shape.Idx S512x128) :
    outP (v13.readCov (Val := Elt Ideal) La (Rect.unit (s := S8x80x512) off0 ![1, 80, 512] inb0).toLoadRect)
      (v13.readCov (Val := Elt Ideal) La (Rect.unit (s := S8x80x512) off1 ![1, 80, 512] inb1).toLoadRect) x
      = outG (View.canon (Val := Elt Ideal) La) ((Rect.unit (s := S512x512) offO ![512, 128] inbO).emb x) := by
  obtain ⟨r, e, rfl⟩ : ∃ (r : Fin 512) (e : Fin 128), x = ix2 r e := ⟨x 0, x 1, eq_ix2 x⟩
  have em : (Rect.unit (s := S512x512) offO ![512, 128] inbO).emb (ix2 r e) = ix2 r ⟨128 * p.val + e.val, by omega⟩ := by
    subst oO
    funext a
    refine Fin.ext ((Rect.idx_unit_val _ _ _ _ a).trans ?_)
    fin_cases a
    · show 0 + r.val = r.val
      omega
    · rfl
  rw [em, outP_apply]
  have rd0 : ∀ v : Fin 80, v13.readCov (Val := Elt Ideal) La (Rect.unit (s := S8x80x512) off0 ![1, 80, 512] inb0).toLoadRect (ix3 0 v r)
      = View.canon (Val := Elt Ideal) La (ix3 ⟨2 * p.val, by omega⟩ v r) := fun v => by
    refine (readA (h := 2 * p.val) (q0 := 0) (nq := 512) v13 (by omega) rfl off0 o0 inb0 v r).trans ?_
    simp only [Nat.zero_add]
  have rd1 : ∀ v : Fin 80, v13.readCov (Val := Elt Ideal) La (Rect.unit (s := S8x80x512) off1 ![1, 80, 512] inb1).toLoadRect (ix3 0 v r)
      = View.canon (Val := Elt Ideal) La (ix3 ⟨2 * p.val + 1, by omega⟩ v r) := fun v => by
    refine (readA (h := 2 * p.val + 1) (q0 := 0) (nq := 512) v13 (by omega) rfl off1 o1 inb1 v r).trans ?_
    simp only [Nat.zero_add]
  show _ = View.canon (Val := Elt Ideal) La (ix3 ⟨(128 * p.val + e.val) / 64, _⟩ ⟨(128 * p.val + e.val) % 64, _⟩ r)
    * Ideal.div 1 (View.canon (Val := Elt Ideal) La (ix3 ⟨(128 * p.val + e.val) / 64, _⟩ 64 r))
  by_cases c : e.val < 64
  · rw [dif_pos c, rd0, rd0]
    have q1 : (128 * p.val + e.val) / 64 = 2 * p.val := by omega
    have q2 : (128 * p.val + e.val) % 64 = e.val := by omega
    simp only [q1, q2]
  · rw [dif_neg c, rd1, rd1]
    have q1 : (128 * p.val + e.val) / 64 = 2 * p.val + 1 := by omega
    have q2 : (128 * p.val + e.val) % 64 = e.val - 64 := by omega
    simp only [q1, q2]

/-- What is wanted of a point's block of outputs: each entry is a weighted sum over a sum of weights, the scores `ym`, the values `vv`. -/
def Good (KA : Vec Ideal S8x2048x128 .bf16) (QA : Vec Ideal S8x512x128 .bf16) (VA : Vec Ideal S8x512x256 .bf16) (j : ℕ) (O : Vec Ideal S512x512 .bf16) : Prop :=
  ∀ (g : Fin 8) (d : Fin 64) (r : Fin 512), ∃ m a l : EReal, Inv 2048 (ym KA QA j g r) (vv VA g ⟨d.val, by omega⟩) m a ∧
    Inv 2048 (ym KA QA j g r) (fun _ => 1) m l ∧ O (ix2 r ⟨64 * g.val + d.val, by omega⟩) = a * Ideal.div 1 l

/-- The outputs of the running sums that have taken in every key. -/
theorem good_of_seen {KA : Vec Ideal S8x2048x128 .bf16} {QA : Vec Ideal S8x512x128 .bf16} {VA : Vec Ideal S8x512x256 .bf16} {j : ℕ} (hj : j < 4)
    {Lm : List (View.Piece (Elt Ideal) S8x1x512 .f32)} {La : List (View.Piece (Elt Ideal) S8x80x512 .f32)}
    (p : Seen KA QA VA j (512 * j + 256) 256 8 Lm La) : Good KA QA VA j (outG (View.canon (Val := Elt Ideal) La)) := by
  intro g d r
  refine ⟨_, _, _, p.all hj g ⟨d.val, by omega⟩ r, p.all hj g 64 r, ?_⟩
  have e1 : (64 * g.val + d.val) / 64 = g.val := by omega
  have e2 : (64 * g.val + d.val) % 64 = d.val := by omega
  show View.canon (Val := Elt Ideal) La (ix3 ⟨(64 * g.val + d.val) / 64, _⟩ ⟨(64 * g.val + d.val) % 64, _⟩ r)
    * Ideal.div 1 (View.canon (Val := Elt Ideal) La (ix3 ⟨(64 * g.val + d.val) / 64, _⟩ 64 r)) = _
  simp only [e1, e2]

/-- The block a point stores (later point of a row), from the running sums. -/
theorem out_B_eq (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S512x512 .bf16) (harg9 : arg9.IsWhole) (arg10 : Memref sig .tc .vmem S8x2048x128 .bf16) (harg10 : arg10.IsWhole) (arg11 : Memref sig .tc .vmem S8x512x128 .bf16) (harg11 : arg11.IsWhole) (arg12 : Memref sig .tc .vmem S8x1x512 .f32) (harg12 : arg12.IsWhole) (arg13 : Memref sig .tc .vmem S8x80x512 .f32) (harg13 : arg13.IsWhole) (hc0 : ¬cond0_0 i)     (x0 : Vec Ideal S512x512 .bf16) (x1 : Vec Ideal S2048x512 .bf16) (x2 : Vec Ideal S8x512x256 .bf16) (x3 : Vec Ideal S512x128 .bf16) (x4 : Vec Ideal S2048x128 .bf16) (x5 : Vec Ideal S4x128x256 .bf16) (x6 : Vec Ideal S4x128x256 .bf16) (xs0 : Vec Ideal S8x2048x128 .bf16) :
    out0_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 = outG (View.canon (Val := Elt Ideal) (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0)) := by
  funext y
  unfold out0_B_7 kernelRun0_B
  dsimp only
  rw [View.read_writes_junk_eq_canon]
  refine View.canon_append_of_piecesOf (Val := Elt Ideal) (outG (View.canon (Val := Elt Ideal) (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0))) [] [_, _, _, _]
    ⟨fun x => ?_, fun x => ?_, fun x => ?_, fun x => ?_, trivial⟩ y (View.cover_of_tiled_head _ _ _ rfl y)
  · exact (congrFun (rfl : _ = outP (arg13.view.readCov (Val := Elt Ideal) (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) (Rect.unit (s := S8x80x512) ![6, 0, 0] S1x80x512.size inb_S8x80x512_S1x80x512_6_0_0).toLoadRect) (arg13.view.readCov (Val := Elt Ideal) (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) (Rect.unit (s := S8x80x512) ![7, 0, 0] S1x80x512.size inb_S8x80x512_S1x80x512_7_0_0).toLoadRect)) x).trans (piece_out arg13.view (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) 3 _ _ _ rfl rfl rfl _ _ inb_S512x512_S512x128_0_384 x)
  · exact (congrFun (rfl : _ = outP (arg13.view.readCov (Val := Elt Ideal) (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) (Rect.unit (s := S8x80x512) ![4, 0, 0] S1x80x512.size inb_S8x80x512_S1x80x512_4_0_0).toLoadRect) (arg13.view.readCov (Val := Elt Ideal) (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) (Rect.unit (s := S8x80x512) ![5, 0, 0] S1x80x512.size inb_S8x80x512_S1x80x512_5_0_0).toLoadRect)) x).trans (piece_out arg13.view (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) 2 _ _ _ rfl rfl rfl _ _ inb_S512x512_S512x128_0_256 x)
  · exact (congrFun (rfl : _ = outP (arg13.view.readCov (Val := Elt Ideal) (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) (Rect.unit (s := S8x80x512) ![2, 0, 0] S1x80x512.size inb_S8x80x512_S1x80x512_2_0_0).toLoadRect) (arg13.view.readCov (Val := Elt Ideal) (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) (Rect.unit (s := S8x80x512) ![3, 0, 0] S1x80x512.size inb_S8x80x512_S1x80x512_3_0_0).toLoadRect)) x).trans (piece_out arg13.view (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) 1 _ _ _ rfl rfl rfl _ _ inb_S512x512_S512x128_0_128 x)
  · exact (congrFun (rfl : _ = outP (arg13.view.readCov (Val := Elt Ideal) (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) (Rect.unit (s := S8x80x512) ![0, 0, 0] S1x80x512.size inb_S8x80x512_S1x80x512_0_0_0).toLoadRect) (arg13.view.readCov (Val := Elt Ideal) (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) (Rect.unit (s := S8x80x512) ![1, 0, 0] S1x80x512.size inb_S8x80x512_S1x80x512_1_0_0).toLoadRect)) x).trans (piece_out arg13.view (kernelRun0_B.sl.HS3_16 (F := Ideal) c i arg2 harg2 arg3 harg3 arg4 harg4 arg5 harg5 arg6 harg6 arg7 harg7 arg8 harg8 arg9 harg9 arg10 harg10 arg11 harg11 arg12 harg12 arg13 harg13 x0 x2 x3 x5 xs0) 0 _ _ _ rfl rfl rfl _ _ inb_S512x512_S512x128_0_0 x)

/-- The block a point stores (later point of a row) is the attention of its scores and values. -/
theorem out_B_good (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S512x512 .bf16) (harg9 : arg9.IsWhole) (arg10 : Memref sig .tc .vmem S8x2048x128 .bf16) (harg10 : arg10.IsWhole) (arg11 : Memref sig .tc .vmem S8x512x128 .bf16) (harg11 : arg11.IsWhole) (arg12 : Memref sig .tc .vmem S8x1x512 .f32) (harg12 : arg12.IsWhole) (arg13 : Memref sig .tc .vmem S8x80x512 .f32) (harg13 : arg13.IsWhole) (hc0 : ¬cond0_0 i)     (x0 : Vec Ideal S512x512 .bf16) (x1 : Vec Ideal S2048x512 .bf16) (x2 : Vec Ideal S8x512x256 .bf16) (x3 : Vec Ideal S512x128 .bf16) (x4 : Vec Ideal S2048x128 .bf16) (x5 : Vec Ideal S4x128x256 .bf16) (x6 : Vec Ideal S4x128x256 .bf16) (xs0 : Vec Ideal S8x2048x128 .bf16)
    (hs : ∀ h r s, sc xs0 (aug (n := 512) x0 x3 x5) h r s ≠ ⊤) :
    Good xs0 (aug (n := 512) x0 x3 x5) x2 (i 1).val (out0_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0) := by
  rw [out_B_eq]
  have hp := seen_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0
  rw [View.read_writes_junk_eq_canon, qaug_B, harg10.read_unread, harg4.read_unread] at hp
  obtain ⟨Lm, p⟩ := hp hs
  exact good_of_seen (i 1).isLt p

/-- The block a point stores (first point of a row), from the running sums. -/
theorem out_A_eq (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S512x512 .bf16) (harg9 : arg9.IsWhole) (arg10 : Memref sig .tc .vmem S8x2048x128 .bf16) (harg10 : arg10.IsWhole) (arg11 : Memref sig .tc .vmem S8x512x128 .bf16) (harg11 : arg11.IsWhole) (arg12 : Memref sig .tc .vmem S8x1x512 .f32) (harg12 : arg12.IsWhole) (arg13 : Memref sig .tc .vmem S8x80x512 .f32) (harg13 : arg13.IsWhole) (hc0 : cond0_0 i)     (x0 : Vec Ideal S512x512 .bf16) (x1 : Vec Ideal S2048x512 .bf16) (x2 : Vec Ideal S8x512x256 .bf16) (x3 : Vec Ideal S512x128 .bf16) (x4 : Vec Ideal S2048x128 .bf16) (x5 : Vec Ideal S4x128x256 .bf16) (x6 : Vec Ideal S4x128x256 .bf16) :
    out0_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = outG (View.canon (Val := Elt Ideal) (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6)) := by
  funext y
  unfold out0_A_7 kernelRun0_A
  dsimp only
  rw [View.read_writes_junk_eq_canon]
  refine View.canon_append_of_piecesOf (Val := Elt Ideal) (outG (View.canon (Val := Elt Ideal) (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6))) [] [_, _, _, _]
    ⟨fun x => ?_, fun x => ?_, fun x => ?_, fun x => ?_, trivial⟩ y (View.cover_of_tiled_head _ _ _ rfl y)
  · exact (congrFun (rfl : _ = outP (arg13.view.readCov (Val := Elt Ideal) (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (Rect.unit (s := S8x80x512) ![6, 0, 0] S1x80x512.size inb_S8x80x512_S1x80x512_6_0_0).toLoadRect) (arg13.view.readCov (Val := Elt Ideal) (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (Rect.unit (s := S8x80x512) ![7, 0, 0] S1x80x512.size inb_S8x80x512_S1x80x512_7_0_0).toLoadRect)) x).trans (piece_out arg13.view (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) 3 _ _ _ rfl rfl rfl _ _ inb_S512x512_S512x128_0_384 x)
  · exact (congrFun (rfl : _ = outP (arg13.view.readCov (Val := Elt Ideal) (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (Rect.unit (s := S8x80x512) ![4, 0, 0] S1x80x512.size inb_S8x80x512_S1x80x512_4_0_0).toLoadRect) (arg13.view.readCov (Val := Elt Ideal) (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (Rect.unit (s := S8x80x512) ![5, 0, 0] S1x80x512.size inb_S8x80x512_S1x80x512_5_0_0).toLoadRect)) x).trans (piece_out arg13.view (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) 2 _ _ _ rfl rfl rfl _ _ inb_S512x512_S512x128_0_256 x)
  · exact (congrFun (rfl : _ = outP (arg13.view.readCov (Val := Elt Ideal) (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (Rect.unit (s := S8x80x512) ![2, 0, 0] S1x80x512.size inb_S8x80x512_S1x80x512_2_0_0).toLoadRect) (arg13.view.readCov (Val := Elt Ideal) (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (Rect.unit (s := S8x80x512) ![3, 0, 0] S1x80x512.size inb_S8x80x512_S1x80x512_3_0_0).toLoadRect)) x).trans (piece_out arg13.view (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) 1 _ _ _ rfl rfl rfl _ _ inb_S512x512_S512x128_0_128 x)
  · exact (congrFun (rfl : _ = outP (arg13.view.readCov (Val := Elt Ideal) (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (Rect.unit (s := S8x80x512) ![0, 0, 0] S1x80x512.size inb_S8x80x512_S1x80x512_0_0_0).toLoadRect) (arg13.view.readCov (Val := Elt Ideal) (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) (Rect.unit (s := S8x80x512) ![1, 0, 0] S1x80x512.size inb_S8x80x512_S1x80x512_1_0_0).toLoadRect)) x).trans (piece_out arg13.view (kernelRun0_A.sl.HS3_16 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6) 0 _ _ _ rfl rfl rfl _ _ inb_S512x512_S512x128_0_0 x)

/-- The block a point stores (first point of a row) is the attention of its scores and values. -/
theorem out_A_good (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S512x512 .bf16) (harg9 : arg9.IsWhole) (arg10 : Memref sig .tc .vmem S8x2048x128 .bf16) (harg10 : arg10.IsWhole) (arg11 : Memref sig .tc .vmem S8x512x128 .bf16) (harg11 : arg11.IsWhole) (arg12 : Memref sig .tc .vmem S8x1x512 .f32) (harg12 : arg12.IsWhole) (arg13 : Memref sig .tc .vmem S8x80x512 .f32) (harg13 : arg13.IsWhole) (hc0 : cond0_0 i)     (x0 : Vec Ideal S512x512 .bf16) (x1 : Vec Ideal S2048x512 .bf16) (x2 : Vec Ideal S8x512x256 .bf16) (x3 : Vec Ideal S512x128 .bf16) (x4 : Vec Ideal S2048x128 .bf16) (x5 : Vec Ideal S4x128x256 .bf16) (x6 : Vec Ideal S4x128x256 .bf16)
    (hs : ∀ h r s, sc (aug (n := 2048) x1 x4 x6) (aug (n := 512) x0 x3 x5) h r s ≠ ⊤) :
    Good (aug (n := 2048) x1 x4 x6) (aug (n := 512) x0 x3 x5) x2 (i 1).val (out0_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6) := by
  rw [out_A_eq]
  have hp := seen_A c i arg2 harg2 arg3 harg3 arg4 harg4 arg5 harg5 arg6 harg6 arg7 harg7 arg8 harg8 arg9 harg9 arg10 harg10 arg11 harg11 arg12 harg12 arg13 harg13 hc0 x0 x1 x2 x3 x4 x5 x6
  rw [View.read_writes_junk_eq_canon, View.read_writes_junk_eq_canon, qaug_A, kaug_A, harg4.read_unread] at hp
  obtain ⟨Lm, p⟩ := hp hs
  exact good_of_seen (i 1).isLt p

/-- The keys the first point of a row leaves for the later ones. -/
theorem sout_A_eq (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S8x512x256 .bf16) (harg4 : arg4.IsWhole) (arg5 : Memref sig .tc .vmem S512x128 .bf16) (harg5 : arg5.IsWhole) (arg6 : Memref sig .tc .vmem S2048x128 .bf16) (harg6 : arg6.IsWhole) (arg7 : Memref sig .tc .vmem S4x128x256 .bf16) (harg7 : arg7.IsWhole) (arg8 : Memref sig .tc .vmem S4x128x256 .bf16) (harg8 : arg8.IsWhole) (arg9 : Memref sig .tc .vmem S512x512 .bf16) (harg9 : arg9.IsWhole) (arg10 : Memref sig .tc .vmem S8x2048x128 .bf16) (harg10 : arg10.IsWhole) (arg11 : Memref sig .tc .vmem S8x512x128 .bf16) (harg11 : arg11.IsWhole) (arg12 : Memref sig .tc .vmem S8x1x512 .f32) (harg12 : arg12.IsWhole) (arg13 : Memref sig .tc .vmem S8x80x512 .f32) (harg13 : arg13.IsWhole) (hc0 : cond0_0 i)     (x0 : Vec Ideal S512x512 .bf16) (x1 : Vec Ideal S2048x512 .bf16) (x2 : Vec Ideal S8x512x256 .bf16) (x3 : Vec Ideal S512x128 .bf16) (x4 : Vec Ideal S2048x128 .bf16) (x5 : Vec Ideal S4x128x256 .bf16) (x6 : Vec Ideal S4x128x256 .bf16) :
    sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = aug (n := 2048) x1 x4 x6 := by
  unfold sout0_A_0 kernelRun0_A
  dsimp only
  rw [View.read_writes_junk_eq_canon]
  exact kaug_A c arg3 harg3 arg6 harg6 arg8 harg8 x1 x4 x6

end Cert.FoxRow
-- ==== Proof.FoxHost.lean ====
/-
  What the attention program's host operations make of its arguments.
-/
module
public import proofs.«01_k».proof.Proof.Gen.FoxIdeal.Value
public import proofs.«01_k».proof.Proof.FoxOut
public import Idealize.ShloMosaic.Lib.Pipeline.ValueKit
public import Idealize.ShloMosaic.Lib.Pointwise
@[expose] public section
set_option maxRecDepth 16384
set_option maxHeartbeats 1000000
noncomputable section
open Idealize.ShloMosaic Idealize.ShloMosaic.TcCoe Idealize.SL.Sem
open Cert.FoxIdeal Cert.FoxIdeal.Gen
namespace Cert.FoxRow

/-! ## The host's arrays -/

/-- One over the natural logarithm of 2. -/
def hLog2e : FVec Ideal S_ .f32 := Host.divf (constant S_ .f32 0x3F800000#32) (Host.log (constant S_ .f32 0x40000000#32))

/-- Queries (scaled) and keys side by side, a row a token. -/
def hZb (a0 a1 : FVec Ideal S8x2048x512 .f32) : FVec Ideal S16384x1024 .bf16 :=
  truncf .bf16 (concatenate S16384x1024 1 [⟨S16384x512, mulf (shapeCast S16384x512 a0 shapeCasts_S8x2048x512_S16384x512)
      (broadcastInDim S16384x512 ![] bcast_S_S16384x512 (mulf (constant S_ .f32 0x3E000000#32) hLog2e))⟩,
    ⟨S16384x512, shapeCast S16384x512 a1 shapeCasts_S8x2048x512_S16384x512⟩] concatenates_S16384x512_S16384x512_S16384x1024_d1) bitsLt_bf16_f32

/-- The values, 256 tokens a block, transposed. -/
def hVt (a2 : FVec Ideal S8x2048x512 .f32) : FVec Ideal S64x512x256 .bf16 :=
  truncf .bf16 (transpose S64x512x256 [0, 2, 1] (shapeCast S64x256x512 a2 shapeCasts_S8x2048x512_S64x256x512) transposes_S64x256x512_S64x512x256_0_2_1) bitsLt_bf16_f32

/-- The running sum of the log gates along the sequence. -/
def hCum (a3 : FVec Ideal S8x2048x8 .f32) : FVec Ideal S8x8x2048 .f32 :=
  Host.reduceWindowAdd ![1, 1, 2048] ![1, 1, 1] ![0, 0, 2047] ![0, 0, 0] (transpose S8x8x2048 [0, 2, 1] a3 transposes_S8x2048x8_S8x8x2048_0_2_1)
    (broadcastInDim S_ ![] bcast_S_S_ (constant S_ .f32 0x00000000#32)) reduceWindows_S8x8x2048_S8x8x2048_w1s1p0_0_w1s1p0_0_w2048s1p2047_0

/-- The running sums over `log 2`, a row a token, a column a head. -/
def hC8 (cum : FVec Ideal S8x8x2048 .f32) : FVec Ideal S16384x8 .f32 :=
  mulf (shapeCast S16384x8 (transpose S8x2048x8 [0, 2, 1] cum transposes_S8x8x2048_S8x2048x8_0_2_1) shapeCasts_S8x2048x8_S16384x8)
    (broadcastInDim S16384x8 ![] bcast_S_S16384x8 hLog2e)

/-- The columns of ones: 1 in the first of eight. -/
def hOnes : FVec Ideal S16384x8 .f32 :=
  select (cmpi .eq (iotaInDim S16384x8 32 1) (broadcastInDim S16384x8 ![] bcast_S_S16384x8 (constantI S_ 32 0#32)))
    (broadcastInDim S16384x8 ![] bcast_S_S16384x8 (constant S_ .f32 0x3F800000#32)) (broadcastInDim S16384x8 ![] bcast_S_S16384x8 (constant S_ .f32 0x00000000#32))

/-- A value's rounded part. -/
def hRound (x : FVec Ideal S16384x8 .f32) : FVec Ideal S16384x8 .f32 := extf .f32 (truncf .bf16 x bitsLt_bf16_f32) bitsLt_bf16_f32

/-- The running sums in three parts, the ones and zeros, side by side. -/
def hSplit (c : FVec Ideal S16384x8 .f32) : FVec Ideal S16384x128 .bf16 :=
  truncf .bf16 (concatenate S16384x128 1 [⟨S16384x8, hRound c⟩, ⟨S16384x8, hRound (subf c (hRound c))⟩,
    ⟨S16384x8, hRound (subf (subf c (hRound c)) (hRound (subf c (hRound c))))⟩, ⟨S16384x8, hOnes⟩,
    ⟨S16384x96, broadcastInDim S16384x96 ![] bcast_S_S16384x96 (constant S_ .f32 0x00000000#32)⟩]
    concatenates_S16384x8_S16384x8_S16384x8_S16384x8_S16384x96_S16384x128_d1) bitsLt_bf16_f32

/-- An integer at every entry of a selector. -/
def hN (x : BitVec 32) : IVec S4x128x256 32 := broadcastInDim S4x128x256 ![] bcast_S_S4x128x256 (constantI S_ 32 x)
/-- A number at every entry of a selector. -/
def hR (x : BitVec 32) : FVec Ideal S4x128x256 .f32 := broadcastInDim S4x128x256 ![] bcast_S_S4x128x256 (constant S_ .f32 x)
/-- The head of a selector's lane. -/
def hHead : IVec S4x128x256 32 :=
  addi (muli (hN 2#32) (iotaInDim S4x128x256 32 0)) (select (cmpi .slt (iotaInDim S4x128x256 32 2) (hN 128#32)) (hN 0#32) (hN 1#32))
/-- 128 plus the number of a selector's lane among its head's bias lanes. -/
def hLane : IVec S4x128x256 32 :=
  addi (iotaInDim S4x128x256 32 2) (select (cmpi .slt (iotaInDim S4x128x256 32 2) (hN 128#32)) (hN 64#32) (hN 0#32))
/-- A selector's rows of ones. -/
def hOne : IVec S4x128x256 1 := cmpi .eq (iotaInDim S4x128x256 32 1) (hN 24#32)
/-- The first three bias lanes. -/
def hFst : IVec S4x128x256 1 := andi (cmpi .sge hLane (hN 128#32)) (cmpi .slt hLane (hN 131#32))
/-- The next three bias lanes. -/
def hSnd : IVec S4x128x256 1 := andi (cmpi .sge hLane (hN 131#32)) (cmpi .slt hLane (hN 134#32))
/-- The row of the head's part that a bias lane takes, the lane's number counted from `x / 8`. -/
def hRow (x : BitVec 32) : IVec S4x128x256 1 :=
  cmpi .eq (addi (iotaInDim S4x128x256 32 1) (hN x)) (addi (muli (hN 8#32) hLane) hHead)

/-- The queries' selector. -/
def hQsel : FVec Ideal S4x128x256 .bf16 :=
  truncf .bf16 (select (ori (andi hFst (hRow 1024#32)) (andi hSnd hOne)) (hR 0x3F800000#32) (hR 0x00000000#32)) bitsLt_bf16_f32
/-- The keys' selector. -/
def hKsel : FVec Ideal S4x128x256 .bf16 :=
  truncf .bf16 (select (andi hFst hOne) (hR 0x3F800000#32) (select (andi hSnd (hRow 1048#32)) (hR 0xBF800000#32) (hR 0x00000000#32))) bitsLt_bf16_f32

variable (m : (ℓ : Loc nD τ sig) → Buf (Elt Ideal) ℓ)

theorem V_v8 (c : Dev nD) : V m c main_v8 = hZb (m ((c : Thread nD τ).loc main_arg0)) (m ((c : Thread nD τ).loc main_arg1)) := by
  unfold V
  simp only [List.flatten_cons, List.flatten_nil, List.append_nil, List.cons_append, List.nil_append]
  after_results
  rfl

theorem V_v11 (c : Dev nD) : V m c main_v11 = hVt (m ((c : Thread nD τ).loc main_arg2)) := by
  unfold V
  simp only [List.flatten_cons, List.flatten_nil, List.append_nil, List.cons_append, List.nil_append]
  after_results
  rfl

theorem V_v33 (c : Dev nD) : V m c main_v33 = hSplit (hC8 (hCum (m ((c : Thread nD τ).loc main_arg3)))) := by
  unfold V
  simp only [List.flatten_cons, List.flatten_nil, List.append_nil, List.cons_append, List.nil_append]
  after_results
  rfl

theorem V_v81 (c : Dev nD) : V m c main_v81 = hQsel := by
  unfold V
  simp only [List.flatten_cons, List.flatten_nil, List.append_nil, List.cons_append, List.nil_append]
  after_results
  rfl

theorem V_v82 (c : Dev nD) : V m c main_v82 = hKsel := by
  unfold V
  simp only [List.flatten_cons, List.flatten_nil, List.append_nil, List.cons_append, List.nil_append]
  after_results
  rfl

/-! ## Their entries -/

theorem two_eq : (Ideal.ofBits FTy.f32 0x40000000#32 : EReal) = ((2 : ℝ) : EReal) := by
  simp [Ideal.ofBits, Ideal.ieee]
  rw [← EReal.coe_mul]
  norm_num

theorem eighth_eq : (Ideal.ofBits FTy.f32 0x3E000000#32 : EReal) = ((1 / 8 : ℝ) : EReal) := by
  simp [Ideal.ofBits, Ideal.ieee]
  rw [← EReal.coe_mul]
  norm_num

theorem negOne_eq : (Ideal.ofBits FTy.f32 0xBF800000#32 : EReal) = -1 := by
  simp [Ideal.ofBits, Ideal.ieee]
  rw [← EReal.coe_mul, ← EReal.coe_one]
  norm_num

theorem log2_pos : 0 < Real.log 2 := Real.log_pos (by norm_num)

theorem hLog2e_apply (i : Shape.Idx S_) : hLog2e i = ((1 / Real.log 2 : ℝ) : EReal) := by
  show Ideal.div (Ideal.ofBits FTy.f32 0x3F800000#32) (Ideal.log (Ideal.ofBits FTy.f32 0x40000000#32)) = _
  rw [two_eq, Ideal.ofBits_one_f32]
  have h : Ideal.log ((2 : ℝ) : EReal) = ((Real.log 2 : ℝ) : EReal) := by
    show (if (2 : ℝ) ≤ 0 then ⊥ else ((Real.log 2 : ℝ) : EReal)) = _
    rw [if_neg (by norm_num)]
  have h0 : ((Real.log 2 : ℝ) : EReal) ≠ 0 := by
    rw [← EReal.coe_zero, Ne, EReal.coe_eq_coe_iff]
    exact log2_pos.ne'
  rw [h]
  unfold Ideal.div
  rw [if_neg h0, one_mul, one_div, EReal.coe_inv]

theorem hZb_q (a0 a1 : FVec Ideal S8x2048x512 .f32) (n : Fin 16384) (e : Fin 512) :
    hZb a0 a1 (ix2 n ⟨e.val, by omega⟩) = a0 (ix3 ⟨n.val / 2048, by omega⟩ ⟨n.val % 2048, by omega⟩ e) * (((1 / 8 : ℝ) : EReal) * ((1 / Real.log 2 : ℝ) : EReal)) := by
  pointwise [hZb]
  rw [eighth_eq, hLog2e_apply]

theorem hZb_k (a0 a1 : FVec Ideal S8x2048x512 .f32) (n : Fin 16384) (e : Fin 512) :
    hZb a0 a1 (ix2 n ⟨512 + e.val, by omega⟩) = a1 (ix3 ⟨n.val / 2048, by omega⟩ ⟨n.val % 2048, by omega⟩ e) := by
  pointwise [hZb]
  try rw [dif_neg (by omega)]
  try simp only [Nat.add_sub_cancel_left]

theorem hVt_apply (a2 : FVec Ideal S8x2048x512 .f32) (b : Fin 64) (e : Fin 512) (s : Fin 256) :
    hVt a2 (ix3 b e s) = a2 (ix3 ⟨b.val / 8, by omega⟩ ⟨b.val % 8 * 256 + s.val, by omega⟩ e) := by
  pointwise [hVt]

theorem hC8_apply (cum : FVec Ideal S8x8x2048 .f32) (n : Fin 16384) (h : Fin 8) :
    hC8 cum (ix2 n h) = cum (ix3 ⟨n.val / 2048, by omega⟩ h ⟨n.val % 2048, by omega⟩) * ((1 / Real.log 2 : ℝ) : EReal) := by
  pointwise [hC8]
  rw [hLog2e_apply]

/-- The first part of a finite running sum is all of it. -/
theorem hSplit_hi (C : FVec Ideal S16384x8 .f32) (n : Fin 16384) (h : Fin 8) : hSplit C (ix2 n ⟨h.val, by omega⟩) = C (ix2 n h) := by
  pointwise [hSplit, hRound, hOnes]

/-- The second part is nothing. -/
theorem hSplit_lo (C : FVec Ideal S16384x8 .f32) (n : Fin 16384) (h : Fin 8) (g : ℝ) (hg : C (ix2 n h) = (g : EReal)) :
    hSplit C (ix2 n ⟨8 + h.val, by omega⟩) = 0 := by
  pointwise [hSplit, hRound, hOnes]
  try rw [dif_neg (by omega), dif_pos (by omega)]
  try simp only [Nat.add_sub_cancel_left]
  try rw [hg, ← EReal.coe_sub, sub_self, EReal.coe_zero]

/-- The third part is nothing. -/
theorem hSplit_lo2 (C : FVec Ideal S16384x8 .f32) (n : Fin 16384) (h : Fin 8) (g : ℝ) (hg : C (ix2 n h) = (g : EReal)) :
    hSplit C (ix2 n ⟨16 + h.val, by omega⟩) = 0 := by
  have e : 16 + h.val - 8 - 8 = h.val := by omega
  pointwise [hSplit, hRound, hOnes]
  try rw [dif_neg (by omega), dif_neg (by omega), dif_pos (by omega)]
  try simp only [e]
  try rw [hg, ← EReal.coe_sub, sub_self, ← EReal.coe_sub, sub_self, EReal.coe_zero]

/-- The column of ones. -/
theorem hSplit_one (C : FVec Ideal S16384x8 .f32) (n : Fin 16384) : hSplit C (ix2 n 24) = 1 := by
  pointwise [hSplit, hRound, hOnes]
  try rfl

/-! ### The selectors -/

theorem sel_ofBool {α : Type} (c : Bool) (a b : α) : Scalar.select (BitVec.ofBool c) a b = if c = true then a else b := by
  cases c <;> rfl
theorem and_ofBool (a b : Bool) : IntOp.andi (BitVec.ofBool a) (BitVec.ofBool b) = BitVec.ofBool (a && b) := by
  cases a <;> cases b <;> rfl
theorem or_ofBool (a b : Bool) : IntOp.ori (BitVec.ofBool a) (BitVec.ofBool b) = BitVec.ofBool (a || b) := by
  cases a <;> cases b <;> rfl
theorem add_word (a b : ℕ) : IntOp.addi (BitVec.ofNat 32 a) (BitVec.ofNat 32 b) = BitVec.ofNat 32 (a + b) := (BitVec.ofNat_add ..).symm
theorem mul_word (a b : ℕ) : IntOp.muli (BitVec.ofNat 32 a) (BitVec.ofNat 32 b) = BitVec.ofNat 32 (a * b) := (BitVec.ofNat_mul ..).symm
theorem toInt_word (a : ℕ) (ha : a < 2 ^ 31) : (BitVec.ofNat 32 a).toInt = a := by
  rw [BitVec.toInt_eq_toNat_of_lt] <;> rw [BitVec.toNat_ofNat, Nat.mod_eq_of_lt (by omega)]
  omega
theorem eq_word (a b : ℕ) (ha : a < 2 ^ 31) (hb : b < 2 ^ 31) :
    IntOp.cmpi CmpIPredicate.eq (BitVec.ofNat 32 a) (BitVec.ofNat 32 b) = BitVec.ofBool (decide (a = b)) := by
  refine congrArg BitVec.ofBool ?_
  show (BitVec.ofNat 32 a == BitVec.ofNat 32 b) = _
  rw [Bool.eq_iff_iff, beq_iff_eq, decide_eq_true_iff, ← BitVec.toInt_inj, toInt_word a ha, toInt_word b hb]
  omega
theorem lt_word (a b : ℕ) (ha : a < 2 ^ 31) (hb : b < 2 ^ 31) :
    IntOp.cmpi CmpIPredicate.slt (BitVec.ofNat 32 a) (BitVec.ofNat 32 b) = BitVec.ofBool (decide (a < b)) := by
  refine congrArg BitVec.ofBool ?_
  show (BitVec.ofNat 32 a).slt (BitVec.ofNat 32 b) = _
  rw [Bool.eq_iff_iff, BitVec.slt_iff_toInt_lt, decide_eq_true_iff, toInt_word a ha, toInt_word b hb]
  omega
theorem ge_word (a b : ℕ) (ha : a < 2 ^ 31) (hb : b < 2 ^ 31) :
    IntOp.cmpi CmpIPredicate.sge (BitVec.ofNat 32 a) (BitVec.ofNat 32 b) = BitVec.ofBool (decide (b ≤ a)) := by
  refine congrArg BitVec.ofBool ?_
  show (BitVec.ofNat 32 b).sle (BitVec.ofNat 32 a) = _
  rw [Bool.eq_iff_iff, BitVec.sle_iff_toInt_le, decide_eq_true_iff, toInt_word a ha, toInt_word b hb]
  omega

/-- 128 plus a selector lane's number among its head's bias lanes. -/
def jl (l : Fin 256) : ℕ := l.val + if l.val < 128 then 64 else 0
/-- A selector lane's head. -/
def hd (p : Fin 4) (l : Fin 256) : ℕ := 2 * p.val + if l.val < 128 then 0 else 1

theorem jl_lt (l : Fin 256) : jl l < 320 := by unfold jl; split <;> omega
theorem hd_lt (p : Fin 4) (l : Fin 256) : hd p l < 8 := by unfold hd; split <;> omega

theorem hHead_apply (p : Fin 4) (x : Fin 128) (l : Fin 256) : hHead (ix3 p x l) = BitVec.ofNat 32 (hd p l) := by
  pointwise [hHead, hN]
  rw [lt_word _ 128 (by omega) (by omega), sel_ofBool, mul_word]
  unfold hd
  simp only [decide_eq_true_iff]
  split <;> exact add_word _ _

theorem hLane_apply (p : Fin 4) (x : Fin 128) (l : Fin 256) : hLane (ix3 p x l) = BitVec.ofNat 32 (jl l) := by
  pointwise [hLane, hN]
  rw [lt_word _ 128 (by omega) (by omega), sel_ofBool]
  unfold jl
  simp only [decide_eq_true_iff]
  split <;> exact add_word _ _

theorem hQsel_apply (p : Fin 4) (x : Fin 128) (l : Fin 256) : hQsel (ix3 p x l)
    = if ((128 ≤ jl l ∧ jl l < 131) ∧ x.val + 1024 = 8 * jl l + hd p l) ∨ ((131 ≤ jl l ∧ jl l < 134) ∧ x.val = 24) then 1 else 0 := by
  have h1 := jl_lt l
  have h2 := hd_lt p l
  pointwise [hQsel, hR, hFst, hSnd, hOne, hRow, hN]
  rw [hLane_apply, hHead_apply, mul_word 8, add_word, add_word, ge_word _ 128 (by omega) (by omega), lt_word _ 131 (by omega) (by omega), ge_word _ 131 (by omega) (by omega),
    lt_word _ 134 (by omega) (by omega), eq_word _ _ (by omega) (by omega), eq_word _ 24 (by omega) (by omega)]
  simp only [and_ofBool, or_ofBool, sel_ofBool, Bool.or_eq_true, Bool.and_eq_true, decide_eq_true_iff]

theorem hKsel_apply (p : Fin 4) (x : Fin 128) (l : Fin 256) : hKsel (ix3 p x l)
    = if (128 ≤ jl l ∧ jl l < 131) ∧ x.val = 24 then 1 else if (131 ≤ jl l ∧ jl l < 134) ∧ x.val + 1048 = 8 * jl l + hd p l then -1 else 0 := by
  have h1 := jl_lt l
  have h2 := hd_lt p l
  pointwise [hKsel, hR, hFst, hSnd, hOne, hRow, hN]
  rw [hLane_apply, hHead_apply, mul_word 8, add_word, add_word, ge_word _ 128 (by omega) (by omega), lt_word _ 131 (by omega) (by omega), ge_word _ 131 (by omega) (by omega),
    lt_word _ 134 (by omega) (by omega), eq_word _ 24 (by omega) (by omega), eq_word _ _ (by omega) (by omega), negOne_eq]
  simp only [and_ofBool, or_ofBool, sel_ofBool, Bool.or_eq_true, Bool.and_eq_true, decide_eq_true_iff]

/-- A query's bias lane `k` of head `h`: the three parts of its running sum, then three ones. -/
def bq (C : Fin 128 → EReal) (h k : ℕ) : EReal :=
  if k < 3 then C ⟨(8 * k + h) % 128, Nat.mod_lt _ (by decide)⟩ else if k < 6 then C 24 else 0

/-- A key's: three ones, then the three parts, negated. -/
def bk (C : Fin 128 → EReal) (h k : ℕ) : EReal :=
  if k < 3 then C 24 else if k < 6 then -C ⟨(8 * (k - 3) + h) % 128, Nat.mod_lt _ (by decide)⟩ else 0

theorem bias_q (C : Fin 128 → EReal) (p : Fin 4) (l : Fin 256) (h k : ℕ) (hk : jl l = 128 + k) (hh : hd p l = h) :
    ∑ x : Fin 128, C x * hQsel (ix3 p x l) = bq C h k := by
  have h2 := hd_lt p l
  unfold bq
  simp only [hQsel_apply]
  split
  · rw [Finset.sum_eq_single ⟨(8 * k + h) % 128, Nat.mod_lt _ (by decide)⟩]
    · rw [if_pos (Or.inl ⟨by omega, by show (8 * k + h) % 128 + 1024 = _; omega⟩), mul_one]
    · intro x _ hx
      have : x.val ≠ (8 * k + h) % 128 := fun e => hx (Fin.ext e)
      rw [if_neg (by omega), mul_zero]
    · intro hx
      exact absurd (Finset.mem_univ _) hx
  · split
    · rw [Finset.sum_eq_single 24]
      · rw [if_pos (Or.inr ⟨by omega, rfl⟩), mul_one]
      · intro x _ hx
        have : x.val ≠ 24 := fun e => hx (Fin.ext e)
        rw [if_neg (by omega), mul_zero]
      · intro hx
        exact absurd (Finset.mem_univ _) hx
    · refine Finset.sum_eq_zero fun x _ => ?_
      rw [if_neg (by omega), mul_zero]

theorem bias_k (C : Fin 128 → EReal) (p : Fin 4) (l : Fin 256) (h k : ℕ) (hk : jl l = 128 + k) (hh : hd p l = h) :
    ∑ x : Fin 128, C x * hKsel (ix3 p x l) = bk C h k := by
  have h2 := hd_lt p l
  unfold bk
  simp only [hKsel_apply]
  split
  · rw [Finset.sum_eq_single 24]
    · rw [if_pos ⟨by omega, rfl⟩, mul_one]
    · intro x _ hx
      have : x.val ≠ 24 := fun e => hx (Fin.ext e)
      rw [if_neg (by omega), if_neg (by omega), mul_zero]
    · intro hx
      exact absurd (Finset.mem_univ _) hx
  · split
    · rw [Finset.sum_eq_single ⟨(8 * (k - 3) + h) % 128, Nat.mod_lt _ (by decide)⟩]
      · rw [if_neg (by omega), if_pos ⟨by omega, by show (8 * (k - 3) + h) % 128 + 1048 = _; omega⟩, mul_neg, mul_one]
      · intro x _ hx
        have : x.val ≠ (8 * (k - 3) + h) % 128 := fun e => hx (Fin.ext e)
        rw [if_neg (by omega), if_neg (by omega), mul_zero]
      · intro hx
        exact absurd (Finset.mem_univ _) hx
    · refine Finset.sum_eq_zero fun x _ => ?_
      rw [if_neg (by omega), if_neg (by omega), mul_zero]

/-! ### Finite running sums -/

/-- A value that is a real number. -/
def IsReal (x : EReal) : Prop := ∃ r : ℝ, x = (r : EReal)

theorem IsReal.add {x y : EReal} : IsReal x → IsReal y → IsReal (x + y) := by
  rintro ⟨a, rfl⟩ ⟨b, rfl⟩
  exact ⟨a + b, (EReal.coe_add a b).symm⟩

theorem isReal_foldl {n : ℕ} (f : Fin n → EReal) (hf : ∀ i, IsReal (f i)) : ∀ (l : List (Fin n)) (v : EReal), IsReal v → IsReal (l.foldl (fun r i => r + f i) v)
  | [], _, hv => hv
  | i :: l, _, hv => isReal_foldl f hf l _ (hv.add (hf i))

/-- The running sums of finite log gates are finite. -/
theorem hCum_real (a3 : FVec Ideal S8x2048x8 .f32) (ha : ∀ i, IsReal (a3 i)) (i : Shape.Idx S8x8x2048) : IsReal (hCum a3 i) := by
  have h0 : IsReal (Ideal.ofBits FTy.f32 0x00000000#32) := ⟨0, by rw [Ideal.ofBits_zero_f32, EReal.coe_zero]⟩
  unfold hCum Host.reduceWindowAdd
  rw [Ideal.hostReduceWindowAdd_def]
  unfold Ideal.hostReduceWindowAdd Host.reduceWindow
  dsimp only
  refine isReal_foldl _ (fun n => ?_) _ _ h0
  split
  · exact ha _
  · exact h0

end Cert.FoxRow
-- ==== Proof.FoxPre.lean ====
/-
  The attention claim's precondition, read element by element.
-/
module
public import proofs.«01_k».proof.Defs
public import proofs.«01_k».proof.Proof.FoxHost
public import proofs.«01_k».proof.Proof.Gen.Pre_finite
@[expose] public section
set_option maxRecDepth 16384
noncomputable section
open Idealize.ShloMosaic Idealize.ShloMosaic.TcCoe Idealize.SL.Sem
namespace Cert.FoxRow

theorem and_one : ∀ x y : BitVec 1, IntOp.andi x y = 1#1 → x = 1#1 ∧ y = 1#1 := by decide

theorem foldl_and {α : Type} (f : α → BitVec 1) : ∀ (l : List α) (a : BitVec 1), l.foldl (fun r i => IntOp.andi r (f i)) a = 1#1 → a = 1#1 ∧ ∀ i ∈ l, f i = 1#1
  | [], a, h => ⟨h, fun i hi => absurd hi List.not_mem_nil⟩
  | j :: l, a, h => by
    obtain ⟨h1, h2⟩ := foldl_and f l _ h
    obtain ⟨h3, h4⟩ := and_one _ _ h1
    refine ⟨h3, fun i hi => ?_⟩
    rcases List.mem_cons.1 hi with rfl | hi
    · exact h4
    · exact h2 i hi

/-- If the conjunction over an array is one, each of its bits is. -/
theorem reduce_and {s : Shape} {axes : List (Fin s.rank)} (x : IVec s 1) (init : IVec ⟨0, ![]⟩ 1) (h : s.ReducesTo axes ⟨0, ![]⟩) (hu) (e : Host.reduce IntOp.andi x init h hu ix0 = 1#1) (i : s.Idx) :
    x i = 1#1 := by
  rw [Host.reduce_eq_foldl] at e
  refine (foldl_and x _ _ e).2 i (List.mem_filter.2 ⟨List.mem_map.2 ⟨s.rowMajor i, List.mem_finRange _, Equiv.symm_apply_apply _ _⟩, decide_eq_true ?_⟩)
  exact funext fun b => b.elim0

/-- A value whose absolute value is below infinity is a real. -/
theorem isReal_of_abs (x : EReal) (h : (FloatOps.cmpf (F := Ideal) (φ := .f32) .olt (FloatOps.absf (F := Ideal) (φ := .f32) x) (Ideal.ofBits .f32 0x7F800000#32)) = 1#1) : IsReal x := by
  have e : Ideal.ofBits .f32 0x7F800000#32 = ⊤ := by simp [Ideal.ofBits, Ideal.ieee]
  rw [e] at h
  have h' : max x (-x) < ⊤ := by
    by_contra hn
    have hb : BitVec.ofBool (decide (max x (-x) < ⊤)) = 1#1 := h
    rw [decide_eq_false hn] at hb
    exact absurd hb (by decide)
  obtain ⟨h1, h2⟩ := max_lt_iff.1 h'
  refine ⟨x.toReal, (EReal.coe_toReal h1.ne ?_).symm⟩
  rintro rfl
  exact absurd h2 (by simp)

theorem finite_of_pre (m : (ℓ : Loc Cert.FoxIdeal.nD Cert.FoxIdeal.τ Cert.FoxIdeal.sig) → Buf (Elt Ideal) ℓ)
    (hp : Pre_FoxIdeal_finite (hPre_finite := Cert.Pre_finite.Gen.facts) m) (c : Dev Cert.FoxIdeal.nD) :
    (∀ i, IsReal ((m ((c.tc : Thread Cert.FoxIdeal.nD Cert.FoxIdeal.τ).loc Cert.FoxIdeal.main_arg0) : FVec Ideal Cert.FoxIdeal.S8x2048x512 .f32) i))
    ∧ (∀ i, IsReal ((m ((c.tc : Thread Cert.FoxIdeal.nD Cert.FoxIdeal.τ).loc Cert.FoxIdeal.main_arg1) : FVec Ideal Cert.FoxIdeal.S8x2048x512 .f32) i))
    ∧ (∀ i, IsReal ((m ((c.tc : Thread Cert.FoxIdeal.nD Cert.FoxIdeal.τ).loc Cert.FoxIdeal.main_arg3) : FVec Ideal Cert.FoxIdeal.S8x2048x8 .f32) i)) := by
  have h := congrFun (hp c) ix0
  unfold Cert.Pre_finite.fn at h
  dsimp only at h
  obtain ⟨h, h3⟩ := and_one _ _ h
  obtain ⟨h, h1⟩ := and_one _ _ h
  obtain ⟨_, h0⟩ := and_one _ _ h
  exact ⟨fun i => isReal_of_abs _ (reduce_and _ _ _ _ h0 i), fun i => isReal_of_abs _ (reduce_and _ _ _ _ h1 i), fun i => isReal_of_abs _ (reduce_and _ _ _ _ h3 i)⟩

end Cert.FoxRow
-- ==== Proof.FoxBlock.lean ====
/-
  The attention program's blocks and scores, in terms of its arguments.
-/
module
public import proofs.«01_k».proof.Proof.FoxHost
public import Idealize.ShloMosaic.Lib.Tactic
@[expose] public section
set_option maxRecDepth 16384
set_option maxHeartbeats 1000000
noncomputable section
open Idealize.ShloMosaic Idealize.ShloMosaic.TcCoe Idealize.SL.Sem
open Cert.FoxIdeal Cert.FoxIdeal.Gen
namespace Cert.FoxRow

variable (m : (ℓ : Loc nD τ sig) → Buf (Elt Ideal) ℓ)

/-- Where each window's block lies at grid point `t`. -/
theorem idx : ∀ t : Fin cfg0.N, win0_0.index t = ![t.val, 0] ∧ win0_1.index t = ![t.val / 4, 1] ∧ win0_2.index t = ![t.val / 4, 0, 0] ∧ win0_3.index t = ![t.val, 0]
    ∧ win0_4.index t = ![t.val / 4, 0] ∧ win0_5.index t = ![0, 0, 0] ∧ win0_6.index t = ![0, 0, 0] ∧ win0_7.index t = ![t.val, 0] ∧ t.val < 32 :=
  (by decide +kernel : ∀ t : Fin grid0.N, _)

theorem lt32 (t : Fin cfg0.N) : t.val < 32 := (idx t).2.2.2.2.2.2.2.2

/-- The grid point's second coordinate. -/
theorem coord1 : ∀ t : Fin cfg0.N, ((grid0.coords t) 1).val = t.val % 4 :=
  (by decide +kernel : ∀ t : Fin grid0.N, _)

theorem read0 (c : Dev nD) (t : Fin cfg0.N) (r e : Fin 512) (h1 : 512 * t.val + r.val < 16384) (h2 : e.val < 1024) :
    (iblk m c 0 t : Vec Ideal S512x512 .bf16) (ix2 r e)
      = hZb (m ((c : Thread nD τ).loc main_arg0)) (m ((c : Thread nD τ).loc main_arg1)) (ix2 ⟨512 * t.val + r.val, h1⟩ ⟨e.val, h2⟩) := by
  have := lt32 t
  rw [← V_v8]
  blk_simp [iblk]
  blk_ext [idx t]
theorem read1 (c : Dev nD) (t : Fin cfg0.N) (r : Fin 2048) (e : Fin 512) (h1 : 2048 * (t.val / 4) + r.val < 16384) (h2 : 512 + e.val < 1024) :
    (iblk m c 1 t : Vec Ideal S2048x512 .bf16) (ix2 r e)
      = hZb (m ((c : Thread nD τ).loc main_arg0)) (m ((c : Thread nD τ).loc main_arg1)) (ix2 ⟨2048 * (t.val / 4) + r.val, h1⟩ ⟨512 + e.val, h2⟩) := by
  have := lt32 t
  rw [← V_v8]
  blk_simp [iblk]
  blk_ext [idx t]
theorem read2 (c : Dev nD) (t : Fin cfg0.N) (b : Fin 8) (e : Fin 512) (s : Fin 256) (h1 : 8 * (t.val / 4) + b.val < 64) :
    (iblk m c 2 t : Vec Ideal S8x512x256 .bf16) (ix3 b e s) = hVt (m ((c : Thread nD τ).loc main_arg2)) (ix3 ⟨8 * (t.val / 4) + b.val, h1⟩ e s) := by
  have := lt32 t
  rw [← V_v11]
  blk_simp [iblk]
  blk_ext [idx t]
theorem read3 (c : Dev nD) (t : Fin cfg0.N) (r : Fin 512) (e : Fin 128) (h1 : 512 * t.val + r.val < 16384) :
    (iblk m c 3 t : Vec Ideal S512x128 .bf16) (ix2 r e)
      = hSplit (hC8 (hCum (m ((c : Thread nD τ).loc main_arg3)))) (ix2 ⟨512 * t.val + r.val, h1⟩ e) := by
  have := lt32 t
  rw [← V_v33]
  blk_simp [iblk]
  blk_ext [idx t]
theorem read4 (c : Dev nD) (t : Fin cfg0.N) (r : Fin 2048) (e : Fin 128) (h1 : 2048 * (t.val / 4) + r.val < 16384) :
    (iblk m c 4 t : Vec Ideal S2048x128 .bf16) (ix2 r e)
      = hSplit (hC8 (hCum (m ((c : Thread nD τ).loc main_arg3)))) (ix2 ⟨2048 * (t.val / 4) + r.val, h1⟩ e) := by
  have := lt32 t
  rw [← V_v33]
  blk_simp [iblk]
  blk_ext [idx t]
theorem read5 (c : Dev nD) (t : Fin cfg0.N) (p : Fin 4) (x : Fin 128) (l : Fin 256) : (iblk m c 5 t : Vec Ideal S4x128x256 .bf16) (ix3 p x l) = hQsel (ix3 p x l) := by
  rw [← V_v81 m c]
  blk_simp [iblk]
  blk_ext [idx t]
theorem read6 (c : Dev nD) (t : Fin cfg0.N) (p : Fin 4) (x : Fin 128) (l : Fin 256) : (iblk m c 6 t : Vec Ideal S4x128x256 .bf16) (ix3 p x l) = hKsel (ix3 p x l) := by
  rw [← V_v82 m c]
  blk_simp [iblk]
  blk_ext [idx t]

end Cert.FoxRow
-- ==== Proof.FoxScore.lean ====
/-
  The attention program's scores: in base-2 units, the reference's.
-/
module
public import proofs.«01_k».proof.Proof.FoxBlock
@[expose] public section
set_option maxRecDepth 16384
set_option maxHeartbeats 1000000
noncomputable section
open Idealize.ShloMosaic Idealize.ShloMosaic.TcCoe Idealize.SL.Sem
open Cert.FoxIdeal Cert.FoxIdeal.Gen
namespace Cert.FoxRow

/-! ## Sums of reals -/

theorem sum_coe {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem IsReal.mul {x y : EReal} : IsReal x → IsReal y → IsReal (x * y) := by
  rintro ⟨a, rfl⟩ ⟨b, rfl⟩
  exact ⟨a * b, (EReal.coe_mul a b).symm⟩

theorem IsReal.ne_top {x : EReal} : IsReal x → x ≠ ⊤ := by
  rintro ⟨a, rfl⟩
  exact EReal.coe_ne_top a

theorem IsReal.ne_bot {x : EReal} : IsReal x → x ≠ ⊥ := by
  rintro ⟨a, rfl⟩
  exact EReal.coe_ne_bot a

/-! ## A score over the 128 lanes -/

/-- The augmented keys against the augmented queries: the head's 64 products and the bias lanes'. -/
theorem sum_aug {n n' : ℕ} (X1 : Vec Ideal ⟨2, ![n, 512]⟩ .bf16) (C1 : Vec Ideal ⟨2, ![n, 128]⟩ .bf16) (X0 : Vec Ideal ⟨2, ![n', 512]⟩ .bf16) (C0 : Vec Ideal ⟨2, ![n', 128]⟩ .bf16)
    (h : Fin 8) (s : Fin n) (r : Fin n') :
    ∑ l : Fin 128, aug X1 C1 hKsel (ix3 h s l) * aug X0 C0 hQsel (ix3 h r l)
      = ∑ d : Fin 64, X1 (ix2 s ⟨64 * h.val + d.val, by omega⟩) * X0 (ix2 r ⟨64 * h.val + d.val, by omega⟩)
        + ∑ k : Fin 64, bk (fun x => C1 (ix2 s x)) h.val k.val * bq (fun x => C0 (ix2 r x)) h.val k.val := by
  obtain ⟨h, hlt⟩ := h
  obtain ⟨p, hp⟩ : ∃ p : Fin 4, h = 2 * p.val ∨ h = 2 * p.val + 1 := ⟨⟨h / 2, by omega⟩, by show h = 2 * (h / 2) ∨ h = 2 * (h / 2) + 1; omega⟩
  refine (Fin.sum_univ_add (a := 64) (b := 64) _).trans ?_
  rcases hp with hp | hp
  · subst hp
    congr 1
    · refine Finset.sum_congr rfl fun d _ => ?_
      have hlt' : (Fin.castAdd 64 d : Fin 128).val < 64 := d.isLt
      have e : 128 * p.val + d.val = 64 * (2 * p.val) + d.val := by omega
      rw [aug_even, aug_even, if_pos hlt', if_pos hlt']
      simp only [Fin.val_castAdd, e]
    · refine Finset.sum_congr rfl fun k _ => ?_
      have hlt' : ¬ (Fin.natAdd 64 k : Fin 128).val < 64 := by rw [Fin.val_natAdd]; omega
      rw [aug_even, aug_even, if_neg hlt', if_neg hlt']
      have hj : jl ⟨(Fin.natAdd 64 k : Fin 128).val, by omega⟩ = 128 + k.val := by
        unfold jl
        simp only [Fin.val_natAdd]
        rw [if_pos (by omega)]
        omega
      have hh : hd p ⟨(Fin.natAdd 64 k : Fin 128).val, by omega⟩ = 2 * p.val := by
        unfold hd
        simp only [Fin.val_natAdd]
        rw [if_pos (by omega)]
        omega
      exact congrArg₂ (· * ·) (bias_k _ p _ _ _ hj hh) (bias_q _ p _ _ _ hj hh)
  · subst hp
    rw [add_comm]
    congr 1
    · refine Finset.sum_congr rfl fun d _ => ?_
      have hlt' : 64 ≤ (Fin.natAdd 64 d : Fin 128).val := by rw [Fin.val_natAdd]; omega
      have e : 128 * p.val + (64 + d.val) = 64 * (2 * p.val + 1) + d.val := by omega
      rw [aug_odd, aug_odd, if_pos hlt', if_pos hlt']
      simp only [Fin.val_natAdd, e]
    · refine Finset.sum_congr rfl fun k _ => ?_
      have hlt' : ¬ 64 ≤ (Fin.castAdd 64 k : Fin 128).val := by rw [Fin.val_castAdd]; omega
      rw [aug_odd, aug_odd, if_neg hlt', if_neg hlt']
      have hj : jl ⟨128 + (Fin.castAdd 64 k : Fin 128).val, by omega⟩ = 128 + k.val := by
        unfold jl
        simp only [Fin.val_castAdd]
        rw [if_neg (by omega)]
        omega
      have hh : hd p ⟨128 + (Fin.castAdd 64 k : Fin 128).val, by omega⟩ = 2 * p.val + 1 := by
        unfold hd
        simp only [Fin.val_castAdd]
        rw [if_neg (by omega)]
      exact congrArg₂ (· * ·) (bias_k _ p _ _ _ hj hh) (bias_q _ p _ _ _ hj hh)

/-- The bias lanes of a key and a query with finite running sums: the difference of the sums. -/
theorem sum_bias (Ck Cq : Fin 128 → EReal) (h : Fin 8) (g g' : ℝ) (k0 : Ck ⟨h.val, by omega⟩ = (g : EReal)) (k1 : Ck ⟨8 + h.val, by omega⟩ = 0) (k2 : Ck ⟨16 + h.val, by omega⟩ = 0)
    (k3 : Ck 24 = 1) (q0 : Cq ⟨h.val, by omega⟩ = (g' : EReal)) (q1 : Cq ⟨8 + h.val, by omega⟩ = 0) (q2 : Cq ⟨16 + h.val, by omega⟩ = 0) (q3 : Cq 24 = 1) :
    ∑ k : Fin 64, bk Ck h.val k.val * bq Cq h.val k.val = ((g' - g : ℝ) : EReal) := by
  refine (Fin.sum_univ_add (a := 6) (b := 58) _).trans ?_
  have z : ∑ k : Fin 58, bk Ck h.val (Fin.natAdd 6 k : Fin 64).val * bq Cq h.val (Fin.natAdd 6 k : Fin 64).val = 0 := by
    refine Finset.sum_eq_zero fun k _ => ?_
    have e : bk Ck h.val (Fin.natAdd 6 k : Fin 64).val = 0 := by
      unfold bk
      rw [Fin.val_natAdd, if_neg (by omega), if_neg (by omega)]
    rw [e, zero_mul]
  rw [z, add_zero, Fin.sum_univ_six]
  have f (C : Fin 128 → EReal) (n : ℕ) (hn : n < 128) : C ⟨n % 128, Nat.mod_lt _ (by decide)⟩ = C ⟨n, hn⟩ := congrArg C (Fin.ext (Nat.mod_eq_of_lt hn))
  have b0 : bk Ck h.val 0 = 1 := k3
  have b3 : bk Ck h.val 3 = -(g : EReal) := by
    show -Ck ⟨(0 + h.val) % 128, _⟩ = _
    rw [f Ck (0 + h.val) (by omega), ← k0]; simp only [Nat.zero_add]
  have b4 : bk Ck h.val 4 = 0 := by
    show -Ck ⟨(8 + h.val) % 128, _⟩ = _
    rw [f Ck (8 + h.val) (by omega), k1, neg_zero]
  have b5 : bk Ck h.val 5 = 0 := by
    show -Ck ⟨(16 + h.val) % 128, _⟩ = _
    rw [f Ck (16 + h.val) (by omega), k2, neg_zero]
  have a0 : bq Cq h.val 0 = (g' : EReal) := by
    show Cq ⟨(0 + h.val) % 128, _⟩ = _
    rw [f Cq (0 + h.val) (by omega), ← q0]; simp only [Nat.zero_add]
  have a1 : bq Cq h.val 1 = 0 := by
    show Cq ⟨(8 + h.val) % 128, _⟩ = _
    rw [f Cq (8 + h.val) (by omega), q1]
  have a2 : bq Cq h.val 2 = 0 := by
    show Cq ⟨(16 + h.val) % 128, _⟩ = _
    rw [f Cq (16 + h.val) (by omega), q2]
  have a3 : bq Cq h.val 3 = 1 := q3
  show bk Ck h.val 0 * bq Cq h.val 0 + bk Ck h.val 1 * bq Cq h.val 1 + bk Ck h.val 2 * bq Cq h.val 2 + bk Ck h.val 3 * bq Cq h.val 3
    + bk Ck h.val 4 * bq Cq h.val 4 + bk Ck h.val 5 * bq Cq h.val 5 = _
  rw [b0, b3, b4, b5, a0, a1, a2, a3, mul_zero, mul_zero, zero_mul, zero_mul, add_zero, add_zero, add_zero, add_zero, one_mul, mul_one, ← EReal.coe_neg, ← EReal.coe_add, sub_eq_add_neg]

/-! ## The reference's scores -/

/-- The score of key `s` for query `i`: their product over 8 and the difference of the running sums. -/
def refScore (q k : FVec Ideal S8x2048x512 .f32) (cum : FVec Ideal S8x8x2048 .f32) (b h : Fin 8) (i s : Fin 2048) : EReal :=
  (∑ d : Fin 64, q (ix3 b i ⟨64 * h.val + d.val, by omega⟩) * k (ix3 b s ⟨64 * h.val + d.val, by omega⟩)) * ((1 / 8 : ℝ) : EReal)
    + (cum (ix3 b h i) - cum (ix3 b h s))

theorem refScore_real (q k : FVec Ideal S8x2048x512 .f32) (cum : FVec Ideal S8x8x2048 .f32) (hq : ∀ i, IsReal (q i)) (hk : ∀ i, IsReal (k i)) (hc : ∀ i, IsReal (cum i))
    (b h : Fin 8) (i s : Fin 2048) : IsReal (refScore q k cum b h i s) := by
  choose q' hq' using hq
  choose k' hk' using hk
  choose c' hc' using hc
  unfold refScore
  simp only [hq', hk', hc', ← EReal.coe_mul, sum_coe, ← EReal.coe_sub, ← EReal.coe_add]
  exact ⟨_, rfl⟩

/-- The kernel's augmented rows hold the reference's score times `1 / log 2`. -/
theorem aug_score (q k : FVec Ideal S8x2048x512 .f32) (cum : FVec Ideal S8x8x2048 .f32) (hq : ∀ i, IsReal (q i)) (hk : ∀ i, IsReal (k i)) (hc : ∀ i, IsReal (cum i))
    (b h : Fin 8) (i s : Fin 2048) {n n' : ℕ} (X1 : Vec Ideal ⟨2, ![n, 512]⟩ .bf16) (C1 : Vec Ideal ⟨2, ![n, 128]⟩ .bf16) (X0 : Vec Ideal ⟨2, ![n', 512]⟩ .bf16) (C0 : Vec Ideal ⟨2, ![n', 128]⟩ .bf16)
    (s' : Fin n) (r : Fin n') (ni ns : Fin 16384) (hni : ni.val = 2048 * b.val + i.val) (hns : ns.val = 2048 * b.val + s.val)
    (hX1 : ∀ e : Fin 512, X1 (ix2 s' e) = hZb q k (ix2 ns ⟨512 + e.val, by omega⟩)) (hX0 : ∀ e : Fin 512, X0 (ix2 r e) = hZb q k (ix2 ni ⟨e.val, by omega⟩))
    (hC1 : ∀ x : Fin 128, C1 (ix2 s' x) = hSplit (hC8 cum) (ix2 ns x)) (hC0 : ∀ x : Fin 128, C0 (ix2 r x) = hSplit (hC8 cum) (ix2 ni x)) :
    ∑ l : Fin 128, aug X1 C1 hKsel (ix3 h s' l) * aug X0 C0 hQsel (ix3 h r l) = ((1 / Real.log 2 : ℝ) : EReal) * refScore q k cum b h i s := by
  choose q' hq' using hq
  choose k' hk' using hk
  choose c' hc' using hc
  have vi : ni.val / 2048 = b.val ∧ ni.val % 2048 = i.val := by omega
  have vs : ns.val / 2048 = b.val ∧ ns.val % 2048 = s.val := by omega
  have gi : hC8 cum (ix2 ni h) = ((c' (ix3 b h i) * (1 / Real.log 2) : ℝ) : EReal) := by
    rw [hC8_apply]
    simp only [vi.1, vi.2, Fin.eta, hc', EReal.coe_mul]
  have gs : hC8 cum (ix2 ns h) = ((c' (ix3 b h s) * (1 / Real.log 2) : ℝ) : EReal) := by
    rw [hC8_apply]
    simp only [vs.1, vs.2, Fin.eta, hc', EReal.coe_mul]
  rw [sum_aug, sum_bias (fun x => C1 (ix2 s' x)) (fun x => C0 (ix2 r x)) h (c' (ix3 b h s) * (1 / Real.log 2)) (c' (ix3 b h i) * (1 / Real.log 2))
    (by rw [hC1, hSplit_hi, gs]) (by rw [hC1, hSplit_lo _ _ _ _ gs]) (by rw [hC1, hSplit_lo2 _ _ _ _ gs]) (by rw [hC1, hSplit_one])
    (by rw [hC0, hSplit_hi, gi]) (by rw [hC0, hSplit_lo _ _ _ _ gi]) (by rw [hC0, hSplit_lo2 _ _ _ _ gi]) (by rw [hC0, hSplit_one])]
  have e1 : ∀ d : Fin 64, X1 (ix2 s' ⟨64 * h.val + d.val, by omega⟩) * X0 (ix2 r ⟨64 * h.val + d.val, by omega⟩)
      = ((k' (ix3 b s ⟨64 * h.val + d.val, by omega⟩) * (q' (ix3 b i ⟨64 * h.val + d.val, by omega⟩) * (1 / 8 * (1 / Real.log 2))) : ℝ) : EReal) := fun d => by
    rw [hX1, hX0]
    have z0 := hZb_q q k ni ⟨64 * h.val + d.val, by omega⟩
    have z1 := hZb_k q k ns ⟨64 * h.val + d.val, by omega⟩
    simp only [vi.1, vi.2, Fin.eta, hq'] at z0
    simp only [vs.1, vs.2, Fin.eta, hk'] at z1
    rw [z0, z1]
    simp only [EReal.coe_mul]
  simp only [e1, sum_coe]
  unfold refScore
  simp only [hq', hk', hc', ← EReal.coe_mul, sum_coe, ← EReal.coe_sub, ← EReal.coe_add]
  refine congrArg _ ?_
  rw [mul_add, Finset.sum_mul, Finset.mul_sum]
  refine congrArg₂ (· + ·) (Finset.sum_congr rfl fun d _ => by ring) (by ring)

end Cert.FoxRow
-- ==== Proof.FoxRows.lean ====
/-
  The attention program's blocks: each grid point leaves the reference's rows.
-/
module
public import proofs.«01_k».proof.Proof.FoxScore
@[expose] public section
set_option maxRecDepth 16384
set_option maxHeartbeats 1000000
noncomputable section
open Idealize.ShloMosaic Idealize.ShloMosaic.TcCoe Idealize.SL.Sem
open Cert.FoxIdeal Cert.FoxIdeal.Gen
namespace Cert.FoxRow

/-! ## The reference's rows -/

/-- The masked score of key `s` for query `i`. -/
def refX (q k : FVec Ideal S8x2048x512 .f32) (cum : FVec Ideal S8x8x2048 .f32) (b h : Fin 8) (i s : Fin 2048) : EReal :=
  if s.val ≤ i.val then refScore q k cum b h i s else ⊥

/-- The softmax of the masked scores over the values, at lane `d` of head `h`. -/
def refOut (q k v : FVec Ideal S8x2048x512 .f32) (cum : FVec Ideal S8x8x2048 .f32) (b h : Fin 8) (i : Fin 2048) (d : Fin 64) : EReal :=
  ∑ s : Fin 2048, Ideal.div (Ideal.exp (refX q k cum b h i s - max ⊥ (Finset.univ.fold max ⊥ (refX q k cum b h i))))
    (0 + ∑ s' : Fin 2048, Ideal.exp (refX q k cum b h i s' - max ⊥ (Finset.univ.fold max ⊥ (refX q k cum b h i)))) * v (ix3 b s ⟨64 * h.val + d.val, by omega⟩)

variable (m : (ℓ : Loc nD τ sig) → Buf (Elt Ideal) ℓ)

/-! ## The keys a row of points carries -/

theorem fst_of {α β : Type} {p : α × β} {a : α} {b : β} (h : p = (a, b)) : p.1 = a := by rw [h]

theorem snd_of {α β : Type} {p : α × β} {a : α} {b : β} (h : p = (a, b)) : p.2 = b := by rw [h]

/-- The augmented keys of grid point `t`'s batch. -/
def keys (c : Dev nD) (t : Fin cfg0.N) : Vec Ideal S8x2048x128 .bf16 := aug (n := 2048) (iblk m c 1 t) (iblk m c 4 t) (iblk m c 6 t)

/-- The augmented queries of grid point `t`. -/
def queries (c : Dev nD) (t : Fin cfg0.N) : Vec Ideal S8x512x128 .bf16 := aug (n := 512) (iblk m c 0 t) (iblk m c 3 t) (iblk m c 5 t)

/-- Points of one batch have the same keys. -/
theorem keys_congr (c : Dev nD) (t t' : Fin cfg0.N) (h : t.val / 4 = t'.val / 4) : keys m c t = keys m c t' := by
  have := lt32 t
  have := lt32 t'
  have e1 : (iblk m c 1 t : Vec Ideal S2048x512 .bf16) = iblk m c 1 t' := funext fun (y : Shape.Idx S2048x512) => by
    obtain ⟨y0, y1, rfl⟩ : ∃ y0 y1, y = ix2 y0 y1 := ⟨_, _, eq_ix2 y⟩
    rw [read1 m c t _ _ (by omega) (by omega), read1 m c t' _ _ (by omega) (by omega)]
    simp only [h]
  have e4 : (iblk m c 4 t : Vec Ideal S2048x128 .bf16) = iblk m c 4 t' := funext fun (y : Shape.Idx S2048x128) => by
    obtain ⟨y0, y1, rfl⟩ : ∃ y0 y1, y = ix2 y0 y1 := ⟨_, _, eq_ix2 y⟩
    rw [read4 m c t _ _ (by omega), read4 m c t' _ _ (by omega)]
    simp only [h]
  have e6 : (iblk m c 6 t : Vec Ideal S4x128x256 .bf16) = iblk m c 6 t' := funext fun (y : Shape.Idx S4x128x256) => by
    obtain ⟨y0, y1, y2, rfl⟩ : ∃ y0 y1 y2, y = ix3 y0 y1 y2 := ⟨_, _, _, eq_ix3 y⟩
    rw [read6, read6]
  unfold keys
  rw [e1, e4, e6]

/-- After each point the carried keys are its batch's. -/
theorem carried (c : Dev nD) (n : ℕ) (hn : n < cfg0.N) : (outsAt0 m c n hn).2 = keys m c ⟨n, hn⟩ := by
  have hA (t : Fin cfg0.N) (h0 : t.val % 4 = 0) : (outsAt0 m c t.val t.isLt).2 = keys m c t := by
    have e : (outsAt0 m c t.val t.isLt).2 = sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) := snd_of (outsAt0_A m c t h0)
    rw [e]
    exact sout_A_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t)
  induction n with
  | zero => exact hA ⟨0, hn⟩ rfl
  | succ n ih =>
    by_cases h0 : (n + 1) % 4 = 0
    · exact hA ⟨n + 1, hn⟩ h0
    · refine (snd_of (outsAt0_B m c ⟨n + 1, hn⟩ h0)).trans ((ih (Nat.lt_of_succ_lt hn)).trans (keys_congr m c _ _ ?_))
      show n / 4 = (n + 1) / 4
      omega

/-! ## A point's scores and values -/

/-- The scores of grid point `t` are the reference's over `log 2`. -/
theorem sc_eq (hq : ∀ (c : Dev nD) i, IsReal ((m ((c : Thread nD τ).loc main_arg0) : FVec Ideal S8x2048x512 .f32) i))
    (hk : ∀ (c : Dev nD) i, IsReal ((m ((c : Thread nD τ).loc main_arg1) : FVec Ideal S8x2048x512 .f32) i))
    (hf : ∀ (c : Dev nD) i, IsReal ((m ((c : Thread nD τ).loc main_arg3) : FVec Ideal S8x2048x8 .f32) i))
    (c : Dev nD) (t : Fin cfg0.N) (b : Fin 8) (hb : b.val = t.val / 4) (h : Fin 8) (r : Fin 512) (i : Fin 2048) (hi : i.val = 512 * (t.val % 4) + r.val) (s : ℕ) :
    sc (keys m c t) (queries m c t) h r s = ((1 / Real.log 2 : ℝ) : EReal) *
      refScore (m ((c : Thread nD τ).loc main_arg0)) (m ((c : Thread nD τ).loc main_arg1)) (hCum (m ((c : Thread nD τ).loc main_arg3))) b h i ⟨s % 2048, Nat.mod_lt _ (by decide)⟩ := by
  have := lt32 t
  have hs : s % 2048 < 2048 := Nat.mod_lt _ (by decide)
  have e5 : (iblk m c 5 t : Vec Ideal S4x128x256 .bf16) = hQsel := funext fun (y : Shape.Idx S4x128x256) => by
    obtain ⟨y0, y1, y2, rfl⟩ : ∃ y0 y1 y2, y = ix3 y0 y1 y2 := ⟨_, _, _, eq_ix3 y⟩
    rw [read5]
  have e6 : (iblk m c 6 t : Vec Ideal S4x128x256 .bf16) = hKsel := funext fun (y : Shape.Idx S4x128x256) => by
    obtain ⟨y0, y1, y2, rfl⟩ : ∃ y0 y1 y2, y = ix3 y0 y1 y2 := ⟨_, _, _, eq_ix3 y⟩
    rw [read6]
  unfold sc keys queries
  rw [e5, e6]
  refine aug_score _ _ _ (hq c) (hk c) (hCum_real _ (hf c)) b h i ⟨s % 2048, hs⟩ _ _ _ _ ⟨s % 2048, hs⟩ r
    ⟨512 * t.val + r.val, by omega⟩ ⟨2048 * (t.val / 4) + s % 2048, by omega⟩ ?_ ?_ (fun e => ?_) (fun e => ?_) (fun x => ?_) (fun x => ?_)
  · show 512 * t.val + r.val = 2048 * b.val + i.val
    omega
  · show 2048 * (t.val / 4) + s % 2048 = 2048 * b.val + s % 2048
    omega
  · exact read1 m c t ⟨s % 2048, hs⟩ e (by show 2048 * (t.val / 4) + s % 2048 < 16384; omega) (by omega)
  · exact read0 m c t r e (by omega) (by omega)
  · exact read4 m c t ⟨s % 2048, hs⟩ x (by show 2048 * (t.val / 4) + s % 2048 < 16384; omega)
  · exact read3 m c t r x (by omega)

/-- The values of grid point `t` are its batch's. -/
theorem vv_eq (c : Dev nD) (t : Fin cfg0.N) (b : Fin 8) (hb : b.val = t.val / 4) (h : Fin 8) (d : Fin 64) (s : Fin 2048) :
    vv (iblk m c 2 t) h ⟨d.val, by omega⟩ s.val = (m ((c : Thread nD τ).loc main_arg2) : FVec Ideal S8x2048x512 .f32) (ix3 b s ⟨64 * h.val + d.val, by omega⟩) := by
  have := lt32 t
  have hd' : d.val < 64 := d.isLt
  unfold vv
  rw [dif_pos hd', read2 m c t _ _ _ (by show 8 * (t.val / 4) + s.val / 256 % 8 < 64; omega), hVt_apply]
  refine congrArg _ (by congr 1 <;> (refine Fin.ext ?_; dsimp only; omega))

/-- What grid point `t` leaves in its block: the reference's rows. -/
theorem point_eq (hq : ∀ (c : Dev nD) i, IsReal ((m ((c : Thread nD τ).loc main_arg0) : FVec Ideal S8x2048x512 .f32) i))
    (hk : ∀ (c : Dev nD) i, IsReal ((m ((c : Thread nD τ).loc main_arg1) : FVec Ideal S8x2048x512 .f32) i))
    (hf : ∀ (c : Dev nD) i, IsReal ((m ((c : Thread nD τ).loc main_arg3) : FVec Ideal S8x2048x8 .f32) i))
    (c : Dev nD) (t : Fin cfg0.N) (b : Fin 8) (hb : b.val = t.val / 4) (h : Fin 8) (d : Fin 64) (r : Fin 512) (i : Fin 2048) (hi : i.val = 512 * (t.val % 4) + r.val) :
    ((outsAt0 m c t.val t.isLt).1 : Vec Ideal S512x512 .bf16) (ix2 r ⟨64 * h.val + d.val, by omega⟩)
      = refOut (m ((c : Thread nD τ).loc main_arg0)) (m ((c : Thread nD τ).loc main_arg1)) (m ((c : Thread nD τ).loc main_arg2)) (hCum (m ((c : Thread nD τ).loc main_arg3))) b h i d := by
  have hR (h : Fin 8) (i s : Fin 2048) := refScore_real _ _ _ (hq c) (hk c) (hCum_real _ (hf c)) b h i s
  have hs : ∀ h r s, sc (keys m c t) (queries m c t) h r s ≠ ⊤ := fun h r s => by
    rw [sc_eq m hq hk hf c t b hb h r ⟨512 * (t.val % 4) + r.val, by omega⟩ rfl s]
    exact (IsReal.mul ⟨_, rfl⟩ (hR _ _ _)).ne_top
  have good : Good (keys m c t) (queries m c t) (iblk m c 2 t) ((grid0.coords t) 1).val (outsAt0 m c t.val t.isLt).1 := by
    by_cases h0 : t.val % 4 = 0
    · have e' : (outsAt0 m c t.val t.isLt).1 = out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) := fst_of (outsAt0_A m c t h0)
      rw [e']
      exact out_A_good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) hs
    · have e : (outsAt0 m c (t.val - 1) (Nat.lt_of_le_of_lt (Nat.sub_le _ _) t.isLt)).2 = keys m c t :=
        (carried m c _ _).trans (keys_congr m c _ _ (by show (t.val - 1) / 4 = t.val / 4; omega))
      have e' : (outsAt0 m c t.val t.isLt).1 = out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 := fst_of (outsAt0_B m c t h0)
      rw [e', ← e]
      exact out_B_good c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 (by rw [e]; exact hs)
  rw [coord1 t] at good
  obtain ⟨m', a, l, ha, hl, ho⟩ := good h d r
  rw [ho, FoxMath.softmax_eq (n := 2048) (refX (m ((c : Thread nD τ).loc main_arg0)) (m ((c : Thread nD τ).loc main_arg1)) (hCum (m ((c : Thread nD τ).loc main_arg3))) b h i) _
    (fun s => by unfold refX; split; exacts [(hR _ _ _).ne_top, bot_ne_top]) i (by unfold refX; rw [if_pos (le_refl _)]; exact (hR _ _ _).ne_bot)
    _ (fun s => ?_) m' a l ha hl]
  · unfold refOut
    exact Finset.sum_congr rfl fun s _ => by rw [vv_eq m c t b hb h d s]
  · unfold ym refX
    rw [hi]
    split
    · rw [sc_eq m hq hk hf c t b hb h r i hi s.val]
      simp only [Nat.mod_eq_of_lt s.isLt, Fin.eta]
    · exact (EReal.coe_mul_bot_of_pos (one_div_pos.2 log2_pos)).symm

end Cert.FoxRow
-- ==== Proof.FoxRef.lean ====
/-
  The attention reference's result, entry by entry.
-/
module
public import proofs.«01_k».proof.Proof.Gen.FoxRefIdeal.Run
public import proofs.«01_k».proof.Proof.FoxRows
public import Idealize.ShloMosaic.Lib.Pointwise
@[expose] public section
set_option maxRecDepth 16384
set_option maxHeartbeats 1000000
noncomputable section
open Idealize.ShloMosaic Idealize.ShloMosaic.TcCoe Idealize.SL.Sem
open Cert.FoxRefIdeal Cert.FoxRefIdeal.Gen
namespace Cert.FoxRow

/-- An argument's columns split into heads. -/
def rHeads (x : FVec Ideal S8x2048x512 .f32) : FVec Ideal S8x8x2048x64 .f32 :=
  transpose S8x8x2048x64 [0, 2, 1, 3] (shapeCast _ x shapeCasts_S8x2048x512_S8x2048x8x64) transposes_S8x2048x8x64_S8x8x2048x64_0_2_1_3

/-- The scores. -/
def rLogits (q k : FVec Ideal S8x8x2048x64 .f32) (cum : FVec Ideal S8x8x2048 .f32) : FVec Ideal S8x8x2048x2048 .f32 :=
  addf (mulf (Host.dotGeneral dot_S8x8x2048x64_S8x8x2048x64_S8x8x2048x2048_3_3_2_2_01_01 none q k)
      (broadcastInDim S8x8x2048x2048 ![] bcast_S_S8x8x2048x2048 (constant S_ .f32 0x3E000000#32)))
    (subf (broadcastInDim S8x8x2048x2048 ![0, 1, 2, 3] bcast_S8x8x2048x1_S8x8x2048x2048_0_1_2_3 (broadcastInDim S8x8x2048x1 ![0, 1, 2] bcast_S8x8x2048_S8x8x2048x1_0_1_2 cum))
      (broadcastInDim S8x8x2048x2048 ![0, 1, 2, 3] bcast_S8x8x1x2048_S8x8x2048x2048_0_1_2_3 (broadcastInDim S8x8x1x2048 ![0, 1, 3] bcast_S8x8x2048_S8x8x1x2048_0_1_3 cum)))

/-- Whether key `s` is no later than query `i`. -/
def rMask : IVec S2048x2048 1 :=
  cmpi .sge (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

/-- The masked scores. -/
def rX (x : FVec Ideal S8x8x2048x2048 .f32) : FVec Ideal S8x8x2048x2048 .f32 :=
  select (broadcastInDim S8x8x2048x2048 ![2, 3] bcast_S2048x2048_S8x8x2048x2048_2_3 rMask) x
    (broadcastInDim S8x8x2048x2048 ![] bcast_S_S8x8x2048x2048 (id (constant S_ .f32 0xFF800000#32)))

/-- The largest score of a query. -/
def rMax (x : FVec Ideal S8x8x2048x2048 .f32) : FVec Ideal S8x8x2048 .f32 :=
  maximumf (broadcastInDim S8x8x2048 ![] bcast_S_S8x8x2048 (constant S_ .f32 0xFF800000#32))
    (Host.reduce FloatOps.maximumf x (constant S_ .f32 0xFF800000#32) reducesTo_S8x8x2048x2048_S8x8x2048_d3 h_S_)

/-- The exponentials against the largest score. -/
def rExp (x : FVec Ideal S8x8x2048x2048 .f32) (y : FVec Ideal S8x8x2048 .f32) : FVec Ideal S8x8x2048x2048 .f32 :=
  Host.exp (subf x (broadcastInDim S8x8x2048x2048 ![0, 1, 2, 3] bcast_S8x8x2048x1_S8x8x2048x2048_0_1_2_3 (broadcastInDim S8x8x2048x1 ![0, 1, 2] bcast_S8x8x2048_S8x8x2048x1_0_1_2 y)))

/-- The weights, normalized. -/
def rNorm (x : FVec Ideal S8x8x2048x2048 .f32) : FVec Ideal S8x8x2048x2048 .f32 :=
  Host.divf x (broadcastInDim S8x8x2048x2048 ![0, 1, 2, 3] bcast_S8x8x2048x1_S8x8x2048x2048_0_1_2_3 (broadcastInDim S8x8x2048x1 ![0, 1, 2] bcast_S8x8x2048_S8x8x2048x1_0_1_2
    (Host.reduceAdd x (constant S_ .f32 0x00000000#32) reducesTo_S8x8x2048x2048_S8x8x2048_d3 h_S_)))

/-- The weighted values, the heads side by side again. -/
def rOut (w : FVec Ideal S8x8x2048x2048 .f32) (v : FVec Ideal S8x8x2048x64 .f32) : FVec Ideal S16384x512 .bf16 :=
  truncf .bf16 (shapeCast _ (transpose S8x2048x8x64 [0, 2, 1, 3] (Host.dotGeneral dot_S8x8x2048x2048_S8x8x2048x64_S8x8x2048x64_3_2_2_3_01_01 none w v)
    transposes_S8x8x2048x64_S8x2048x8x64_0_2_1_3) shapeCasts_S8x2048x8x64_S16384x512) bitsLt_bf16_f32

theorem rHeads_apply (x : FVec Ideal S8x2048x512 .f32) (b h : Fin 8) (i : Fin 2048) (d : Fin 64) :
    rHeads x (ix4 b h i d) = x (ix3 b i ⟨64 * h.val + d.val, by omega⟩) := by
  have e : 64 * h.val + d.val = h.val * 64 + d.val := by omega
  simp only [e]
  pointwise [rHeads]

theorem rLogits_apply (q k : FVec Ideal S8x8x2048x64 .f32) (cum : FVec Ideal S8x8x2048 .f32) (b h : Fin 8) (i s : Fin 2048) :
    rLogits q k cum (ix4 b h i s) = (∑ d : Fin 64, q (ix4 b h i d) * k (ix4 b h s d)) * Ideal.ofBits .f32 0x3E000000#32 + (cum (ix3 b h i) - cum (ix3 b h s)) := by
  pointwise [rLogits]

theorem rX_apply (x : FVec Ideal S8x8x2048x2048 .f32) (b h : Fin 8) (i s : Fin 2048) :
    rX x (ix4 b h i s) = if s.val ≤ i.val then x (ix4 b h i s) else ⊥ := by
  have e : rX x (ix4 b h i s) = Scalar.select (IntOp.cmpi .sge (BitVec.ofNat 32 i.val) (BitVec.ofNat 32 s.val)) (x (ix4 b h i s)) (Ideal.ofBits .f32 0xFF800000#32) := by
    unfold rX rMask id
    pointwise
  have hc : IntOp.cmpi .sge (BitVec.ofNat 32 i.val) (BitVec.ofNat 32 s.val) = BitVec.ofBool (decide (s.val ≤ i.val)) :=
     ge_word _ _ (by omega) (by omega)
  rw [e, hc, negInf]
  by_cases hs : s.val ≤ i.val
  · rw [if_pos hs, decide_eq_true hs]; rfl
  · rw [if_neg hs, decide_eq_false hs]; rfl

theorem lift_ix4 {a b c n : ℕ} (h : (⟨4, ![a, b, c, n]⟩ : Shape).Reduces [3] ⟨3, ![a, b, c]⟩) (x : Fin a) (y : Fin b) (z : Fin c) (k : Fin n) :
    h.lift (ix3 x y z) k = (ix4 x y z k : Shape.Idx ⟨4, ![a, b, c, n]⟩) := by
  funext c
  apply Fin.ext
  fin_cases c <;> rfl

/-- The largest of a row, from −∞. -/
theorem reduce_max {a b c n : ℕ} (x : FVec Ideal ⟨4, ![a, b, c, n]⟩ .f32) (h' : (⟨4, ![a, b, c, n]⟩ : Shape).ReducesTo [3] ⟨3, ![a, b, c]⟩)
    (h : (⟨4, ![a, b, c, n]⟩ : Shape).Reduces [3] ⟨3, ![a, b, c]⟩) (hu : 0 < (⟨0, ![]⟩ : Shape).numel) (i : Fin a) (j : Fin b) (k : Fin c) :
    Host.reduce FloatOps.maximumf x (constant (⟨0, ![]⟩ : Shape) .f32 0xFF800000#32) h' hu (ix3 i j k)
      = Finset.univ.fold max ⊥ fun s : Fin n => x (ix4 i j k s) := by
  rw [Host.reduce_eq_fold_single FloatOps.maximumf x _ h' h hu]
  have e : (x ∘ h.lift (ix3 i j k)) = fun s : Fin n => x (ix4 i j k s) := funext fun s => congrArg x (lift_ix4 h i j k s)
  rw [← negInf]
  exact congrArg (fun f => Finset.fold max (Ideal.ofBits .f32 0xFF800000#32) f (Finset.univ : Finset (Fin n))) e

theorem red3 : (S8x8x2048x2048).Reduces [3] S8x8x2048 :=
  ⟨(reducesTo_S8x8x2048x2048_S8x8x2048_d3).1, by decide, (reducesTo_S8x8x2048x2048_S8x8x2048_d3).2⟩

theorem max_bcast (b h : Fin 8) (i : Fin 2048) (y : FVec Ideal S8x8x2048 .f32) : maximumf (broadcastInDim S8x8x2048 ![] bcast_S_S8x8x2048 (constant S_ .f32 0xFF800000#32)) y (ix3 b h i) = max ⊥ (y (ix3 b h i)) := by
  refine Eq.trans (b := max (Ideal.ofBits .f32 0xFF800000#32) (y (ix3 b h i))) ?_ (by rw [negInf])
  pointwise
theorem rMax_apply (x : FVec Ideal S8x8x2048x2048 .f32) (b h : Fin 8) (i : Fin 2048) :
    rMax x (ix3 b h i) = max ⊥ (Finset.univ.fold max ⊥ fun s : Fin 2048 => x (ix4 b h i s)) := by
  have e := reduce_max x reducesTo_S8x8x2048x2048_S8x8x2048_d3 red3 h_S_ b h i
  exact (max_bcast b h i _).trans (congrArg (max ⊥) e)

theorem rExp_apply (x : FVec Ideal S8x8x2048x2048 .f32) (y : FVec Ideal S8x8x2048 .f32) (b h : Fin 8) (i s : Fin 2048) :
    rExp x y (ix4 b h i s) = Ideal.exp (x (ix4 b h i s) - y (ix3 b h i)) := by
  pointwise [rExp]

theorem rNorm_apply (x : FVec Ideal S8x8x2048x2048 .f32) (b h : Fin 8) (i s : Fin 2048) :
    rNorm x (ix4 b h i s) = Ideal.div (x (ix4 b h i s)) (0 + ∑ s' : Fin 2048, x (ix4 b h i s')) := by
  pointwise [rNorm]

theorem rOut_apply (w : FVec Ideal S8x8x2048x2048 .f32) (v : FVec Ideal S8x8x2048x64 .f32) (n : Fin 16384) (e : Fin 512) :
    rOut w v (ix2 n e) = ∑ s : Fin 2048, w (ix4 ⟨n.val / 2048, by omega⟩ ⟨e.val / 64, by omega⟩ ⟨n.val % 2048, by omega⟩ s) *
      v (ix4 ⟨n.val / 2048, by omega⟩ ⟨e.val / 64, by omega⟩ s ⟨e.val % 64, by omega⟩) := by
  pointwise [rOut]

/-- The masked scores of the arguments. -/
theorem rX_eq (q k : FVec Ideal S8x2048x512 .f32) (cum : FVec Ideal S8x8x2048 .f32) (b h : Fin 8) (i s : Fin 2048) :
    rX (rLogits (rHeads q) (rHeads k) cum) (ix4 b h i s) = refX q k cum b h i s := by
  rw [rX_apply, rLogits_apply, eighth_eq]
  simp only [rHeads_apply]
  rfl

/-- The whole reference, entry by entry. -/
theorem rAll_apply (q k v : FVec Ideal S8x2048x512 .f32) (cum : FVec Ideal S8x8x2048 .f32) (n : Fin 16384) (e : Fin 512) :
    rOut (rNorm (rExp (rX (rLogits (rHeads q) (rHeads k) cum)) (rMax (rX (rLogits (rHeads q) (rHeads k) cum))))) (rHeads v) (ix2 n e)
      = refOut q k v cum ⟨n.val / 2048, by omega⟩ ⟨e.val / 64, by omega⟩ ⟨n.val % 2048, by omega⟩ ⟨e.val % 64, by omega⟩ := by
  rw [rOut_apply]
  unfold refOut
  refine Finset.sum_congr rfl fun s _ => ?_
  rw [rNorm_apply, rHeads_apply]
  simp only [rExp_apply, rMax_apply, rX_eq]

variable (m : (ℓ : Loc nD τ sig) → Buf (Elt Ideal) ℓ)

/-- The reference's result is the composition of its stages. -/
theorem res_eq (c : Dev nD) : Value.res_main_v39 m c =
    rOut (rNorm (rExp (rX (rLogits (rHeads (m ((c.tc : Thread nD τ).loc main_arg0))) (rHeads (m ((c.tc : Thread nD τ).loc main_arg1))) (hCum (m ((c.tc : Thread nD τ).loc main_arg3)))))
      (rMax (rX (rLogits (rHeads (m ((c.tc : Thread nD τ).loc main_arg0))) (rHeads (m ((c.tc : Thread nD τ).loc main_arg1))) (hCum (m ((c.tc : Thread nD τ).loc main_arg3))))))))
      (rHeads (m ((c.tc : Thread nD τ).loc main_arg2))) := rfl

/-- The reference's result at `(n, e)`: lane `e % 64` of head `e / 64` of token `n`. -/
theorem ref_apply (c : Dev nD) (n : Fin 16384) (e : Fin 512) :
    Value.res_main_v39 m c (ix2 n e)
      = refOut (m ((c.tc : Thread nD τ).loc main_arg0)) (m ((c.tc : Thread nD τ).loc main_arg1)) (m ((c.tc : Thread nD τ).loc main_arg2)) (hCum (m ((c.tc : Thread nD τ).loc main_arg3)))
        ⟨n.val / 2048, by omega⟩ ⟨e.val / 64, by omega⟩ ⟨n.val % 2048, by omega⟩ ⟨e.val % 64, by omega⟩ := by
  rw [res_eq]
  exact rAll_apply _ _ _ _ n e

end Cert.FoxRow
-- ==== Proof.FoxValue.lean ====
/-
  The attention program's result array.
-/
module
public import proofs.«01_k».proof.Proof.FoxRows
public import Idealize.ShloMosaic.Lib.Tactic
@[expose] public section
set_option maxRecDepth 16384
noncomputable section
open Idealize.ShloMosaic Idealize.ShloMosaic.TcCoe Idealize.SL.Sem
open Cert.FoxIdeal Cert.FoxIdeal.Gen
namespace Cert.FoxRow

variable (m : (ℓ : Loc nD τ sig) → Buf (Elt Ideal) ℓ)

/-- The result array: each token's rows of the reference, the heads side by side. -/
def foxG (c : Dev nD) : FVec Ideal S16384x512 .bf16 := fun y =>
  refOut (m ((c : Thread nD τ).loc main_arg0)) (m ((c : Thread nD τ).loc main_arg1)) (m ((c : Thread nD τ).loc main_arg2)) (hCum (m ((c : Thread nD τ).loc main_arg3)))
    ⟨(y 0).val / 2048, by have h : (y 0).val < 16384 := (y 0).isLt; omega⟩ ⟨(y 1).val / 64, by have h : (y 1).val < 512 := (y 1).isLt; omega⟩
    ⟨(y 0).val % 2048, Nat.mod_lt _ (by decide)⟩ ⟨(y 1).val % 64, Nat.mod_lt _ (by decide)⟩

/-- The result array ends holding the reference's rows. -/
theorem fox_final (hq : ∀ (c : Dev nD) i, IsReal ((m ((c : Thread nD τ).loc main_arg0) : FVec Ideal S8x2048x512 .f32) i))
    (hk : ∀ (c : Dev nD) i, IsReal ((m ((c : Thread nD τ).loc main_arg1) : FVec Ideal S8x2048x512 .f32) i))
    (hf : ∀ (c : Dev nD) i, IsReal ((m ((c : Thread nD τ).loc main_arg3) : FVec Ideal S8x2048x8 .f32) i)) (c : Dev nD) :
    (dats m 0 c).arrAt 7 cfg0.N = foxG m c := by
  refine (dats m 0 c).arrAt_eq_of_covers 7 _ (by decide +kernel) fun t hf' y => ?_
  have ht := lt32 t
  blk_simp
  rw [after0_7]
  idx_vars y
  have hr : y0.val < 512 := y0.isLt
  have hl : y1.val < 512 := y1.isLt
  have e0 : ((((View.whole main_v83).slice (win0_7.rect t)).emb (ix2 y0 y1)) 0 : Nat) = t.val * 512 + y0.val := by
    blk_ext [idx t]
  have e1 : ((((View.whole main_v83).slice (win0_7.rect t)).emb (ix2 y0 y1)) 1 : Nat) = y1.val := by blk_ext [idx t]
  have e := point_eq m hq hk hf c t ⟨t.val / 4, by omega⟩ rfl ⟨y1.val / 64, by omega⟩ ⟨y1.val % 64, by omega⟩ y0 ⟨512 * (t.val % 4) + y0.val, by omega⟩ rfl
  have w : 64 * (y1.val / 64) + y1.val % 64 = y1.val := by omega
  have w0 : (t.val * 512 + y0.val) / 2048 = t.val / 4 := by omega
  have w1 : (t.val * 512 + y0.val) % 2048 = 512 * (t.val % 4) + y0.val := by omega
  simp only [w, Fin.eta] at e
  unfold foxG
  simp only [e0, e1, w0, w1]
  exact e

end Cert.FoxRow
-- ==== Proof.FoxClaim.lean ====
/-
  The attention kernel and its reference end with the same result.
-/
module

public import proofs.«01_k».proof.Defs
public import proofs.«01_k».proof.Proof.FoxPre
public import proofs.«01_k».proof.Proof.FoxRef
public import proofs.«01_k».proof.Proof.FoxValue

@[expose] public section

set_option maxRecDepth 16384

noncomputable section

open Idealize.ShloMosaic Idealize.ShloMosaic.TcCoe Idealize.SL.Sem

namespace Cert.FoxRow

/-- The two result arrays are equal when the four arguments are. -/
theorem ref_eq (m : (ℓ : Loc Cert.FoxIdeal.nD Cert.FoxIdeal.τ Cert.FoxIdeal.sig) → Buf (Elt Ideal) ℓ)
    (m' : (ℓ : Loc Cert.FoxRefIdeal.nD Cert.FoxRefIdeal.τ Cert.FoxRefIdeal.sig) → Buf (Elt Ideal) ℓ) (c : Dev Cert.FoxIdeal.nD)
    (h0 : m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0))
    (h1 : m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1))
    (h2 : m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2))
    (h3 : m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) :
    Cert.FoxRefIdeal.Value.res_main_v39 m' c = foxG m c := by
  refine funext fun i => ?_
  rw [eq_ix2 i]
  refine (ref_apply m' c (i 0) (i 1)).trans ?_
  rw [h0, h1, h2, h3]
  rfl

/-- The value claim of the attention kernel: with finite queries, keys and log gates its result is the reference's. -/
theorem algebraic : algebraic_FoxIdeal_FoxRefIdeal_pre_finite (hFoxIdeal := Cert.FoxIdeal.Gen.facts) (hFoxRefIdeal := Cert.FoxRefIdeal.Gen.facts)
    (hPre_finite := Cert.Pre_finite.Gen.facts) := by
  intro m ρ m' ρ' hp hag
  have hfin := finite_of_pre m hp
  refine ⟨fun c => foxG m c, (θ_run _ _ _).mono (fun _ h c => ⟨(h c).1.trans (fox_final m (fun c => (hfin c).1) (fun c => (hfin c).2.1) (fun c => (hfin c).2.2) c), (h c).2⟩)
      (Cert.FoxIdeal.Value.run_blocks (F := Ideal) m ρ),
    (θ_run _ _ _).mono (fun _ h c => ⟨(h c).1.trans ?_, (h c).2⟩) (Cert.FoxRefIdeal.Value.run (F := Ideal) m' ρ')⟩
  obtain ⟨h0, h1, h2, h3⟩ := hag c
  exact ref_eq m m' c h0 h1 h2 h3

end Cert.FoxRow
-- ==== Proof.lean ====
/-
  The certificate's claims: every program runs and keeps its arguments; the attention kernel and the output block compute
  their references.
-/
module

public import proofs.«01_k».proof.Defs
public import proofs.«01_k».proof.Proof.Gen.Fox.Frame
public import proofs.«01_k».proof.Proof.Gen.FoxIdeal.Frame
public import proofs.«01_k».proof.Proof.Gen.Post.Frame
public import proofs.«01_k».proof.Proof.Gen.PostIdeal.Frame
public import proofs.«01_k».proof.Proof.RefFrame
public import proofs.«01_k».proof.Proof.PostClaim
public import proofs.«01_k».proof.Proof.FoxClaim
public import Idealize.ShloMosaic.Adequacy
public import Idealize.ShloMosaic.Init

@[expose] public section

noncomputable section

namespace Cert.Proof

open Idealize.ShloMosaic Idealize.SL.Sem Cert.Fox

theorem claim : Cert.Claim := ⟨Cert.Fox.Gen.facts, Cert.FoxIdeal.Gen.facts, Cert.FoxRefIdeal.Gen.facts, Cert.Post.Gen.facts, Cert.PostIdeal.Gen.facts, Cert.PostRefIdeal.Gen.facts,
    Cert.Pre_finite.Gen.facts,
    fun m ρ _ => Cert.Fox.Gen.frame m ρ, fun m ρ _ => Cert.FoxIdeal.Gen.frame m ρ, fun m ρ _ => Cert.FoxIdeal.Gen.frame m ρ, Cert.RefFrame.fox,
    fun m ρ _ => Cert.RefFrame.fox m ρ trivial,
    fun m ρ _ => Cert.Post.Gen.frame m ρ, fun m ρ _ => Cert.PostIdeal.Gen.frame m ρ, Cert.RefFrame.post,
    trivial, Cert.FoxRow.algebraic, trivial, Cert.PostRow.algebraic⟩

end Cert.Proof
